-- ==== Defs.lean ====
def Pre_Kernel [hPre_labels : Cert.Pre_labels.Facts] (m : (ℓ : Loc Cert.Kernel.nD Cert.Kernel.τ Cert.Kernel.sig) → Buf (Elt Bits) ℓ) : Prop :=
  ∀ c : Dev Cert.Kernel.nD,
    (Cert.Pre_labels.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels : Cert.Pre_labels.Facts] (m : (ℓ : Loc Cert.KernelIdeal.nD Cert.KernelIdeal.τ Cert.KernelIdeal.sig) → Buf (Elt Ideal) ℓ) : Prop :=
  ∀ c : Dev Cert.KernelIdeal.nD,
    (Cert.Pre_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels [hPre_labels : Cert.Pre_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels : Cert.Pre_labels.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels [hReferenceIdeal : Cert.ReferenceIdeal.Facts] [hPre_labels : Cert.Pre_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels : Cert.Pre_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels : Cert.Pre_labels.Facts),
    quiescent_Kernel (hKernel := hKernel) (hPre_labels := hPre_labels)
    ∧ quiescent_KernelIdeal (hKernelIdeal := hKernelIdeal) (hPre_labels := hPre_labels)
    ∧ quiescent_ReferenceIdeal (hReferenceIdeal := hReferenceIdeal)
    ∧ quiescent_ReferenceIdeal_pre_labels (hReferenceIdeal := hReferenceIdeal) (hPre_labels := hPre_labels)
    ∧ preserves_Kernel_KernelIdeal
    ∧ algebraic_KernelIdeal_ReferenceIdeal (hKernelIdeal := hKernelIdeal) (hReferenceIdeal := hReferenceIdeal) (hPre_labels := hPre_labels)
-- ==== Pre_labels.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x1000 : Shape := ⟨2, ![16384, 1000]⟩
abbrev S16384 : Shape := ⟨1, ![16384]⟩
abbrev S512 : Shape := ⟨1, ![512]⟩
abbrev S32x1000 : Shape := ⟨2, ![32, 1000]⟩
abbrev S_ : Shape := ⟨0, ![]⟩
abbrev S16 : Shape := ⟨1, ![16]⟩

abbrev nBuf : Table → Nat
  | .hbm => 3
  | .local .scVector .vmem => 5
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S16384, .f32⟩
  | .local .scVector .vmem, ⟨0, _⟩ => ⟨S512, .i32⟩
  | .local .scVector .vmem, ⟨1, _⟩ => ⟨S32x1000, .f32⟩
  | .local .scVector .vmem, ⟨2, _⟩ => ⟨S32x1000, .f32⟩
  | .local .scVector .vmem, ⟨3, _⟩ => ⟨S32x1000, .f32⟩
  | .local .scVector .vmem, ⟨4, _⟩ => ⟨S512, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_0 : BitVec 32 := 0#32
  ![v3.toNat, 0]

def k0_chk1 (v16 : IVec S16 32) (v17 : IVec S16 32) : Prop :=
  (∀ a x, ((![v16, v17] : Fin 2 → IVec S16 32) a x).toNat < S32x1000.size a)
theorem k0_idx1_inb : ∀ (v16 : IVec S16 32) (v17 : IVec S16 32) (k0_hw1 : k0_chk1 v16 v17), ∀ a x, ((![v16, v17] : Fin 2 → IVec S16 32) a x).toNat < S32x1000.size a := fun v16 v17 k0_hw1 => k0_hw1

def k0_chk2 (v22 : IVec S16 32) (v23 : IVec S16 32) : Prop :=
  (∀ a x, ((![v22, v23] : Fin 2 → IVec S16 32) a x).toNat < S32x1000.size a)
theorem k0_idx2_inb : ∀ (v22 : IVec S16 32) (v23 : IVec S16 32) (k0_hw2 : k0_chk2 v22 v23), ∀ a x, ((![v22, v23] : Fin 2 → IVec S16 32) a x).toNat < S32x1000.size a := fun v22 v23 k0_hw2 => k0_hw2
def k0_off3 (i : grid0.Coords) (c96_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v26 : BitVec 32 := Scalar.addi v2 c96_i32
  let c0_i32_11 : BitVec 32 := 0#32
  ![v26.toNat, 0]

def k0_chk3 (v33 : IVec S16 32) (v34 : IVec S16 32) : Prop :=
  (∀ a x, ((![v33, v34] : Fin 2 → IVec S16 32) a x).toNat < S32x1000.size a)
theorem k0_idx3_inb : ∀ (v33 : IVec S16 32) (v34 : IVec S16 32) (k0_hw3 : k0_chk3 v33 v34), ∀ a x, ((![v33, v34] : Fin 2 → IVec S16 32) a x).toNat < S32x1000.size a := fun v33 v34 k0_hw3 => k0_hw3

def k0_chk4 (v39 : IVec S16 32) (v40 : IVec S16 32) : Prop :=
  (∀ a x, ((![v39, v40] : Fin 2 → IVec S16 32) a x).toNat < S32x1000.size a)
theorem k0_idx4_inb : ∀ (v39 : IVec S16 32) (v40 : IVec S16 32) (k0_hw4 : k0_chk4 v39 v40), ∀ a x, ((![v39, v40] : Fin 2 → IVec S16 32) a x).toNat < S32x1000.size a := fun v39 v40 k0_hw4 => k0_hw4
def k0_off4 (i : grid0.Coords) (c128_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v43 : BitVec 32 := Scalar.addi v2 c128_i32
  let c0_i32_19 : BitVec 32 := 0#32
  ![v43.toNat, 0]

def k0_chk5 (v50 : IVec S16 32) (v51 : IVec S16 32) : Prop :=
  (∀ a x, ((![v50, v51] : Fin 2 → IVec S16 32) a x).toNat < S32x1000.size a)
theorem k0_idx5_inb : ∀ (v50 : IVec S16 32) (v51 : IVec S16 32) (k0_hw5 : k0_chk5 v50 v51), ∀ a x, ((![v50, v51] : Fin 2 → IVec S16 32) a x).toNat < S32x1000.size a := fun v50 v51 k0_hw5 => k0_hw5

def k0_chk6 (v56 : IVec S16 32) (v57 : IVec S16 32) : Prop :=
  (∀ a x, ((![v56, v57] : Fin 2 → IVec S16 32) a x).toNat < S32x1000.size a)
theorem k0_idx6_inb : ∀ (v56 : IVec S16 32) (v57 : IVec S16 32) (k0_hw6 : k0_chk6 v56 v57), ∀ a x, ((![v56, v57] : Fin 2 → IVec S16 32) a x).toNat < S32x1000.size a := fun v56 v57 k0_hw6 => k0_hw6
def k0_off5 (i : grid0.Coords) (c160_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v60 : BitVec 32 := Scalar.addi v2 c160_i32
  let c0_i32_27 : BitVec 32 := 0#32
  ![v60.toNat, 0]

def k0_chk7 (v67 : IVec S16 32) (v68 : IVec S16 32) : Prop :=
  (∀ a x, ((![v67, v68] : Fin 2 → IVec S16 32) a x).toNat < S32x1000.size a)
theorem k0_idx7_inb : ∀ (v67 : IVec S16 32) (v68 : IVec S16 32) (k0_hw7 : k0_chk7 v67 v68), ∀ a x, ((![v67, v68] : Fin 2 → IVec S16 32) a x).toNat < S32x1000.size a := fun v67 v68 k0_hw7 => k0_hw7

def k0_chk8 (v73 : IVec S16 32) (v74 : IVec S16 32) : Prop :=
  (∀ a x, ((![v73, v74] : Fin 2 → IVec S16 32) a x).toNat < S32x1000.size a)
theorem k0_idx8_inb : ∀ (v73 : IVec S16 32) (v74 : IVec S16 32) (k0_hw8 : k0_chk8 v73 v74), ∀ a x, ((![v73, v74] : Fin 2 → IVec S16 32) a x).toNat < S32x1000.size a := fun v73 v74 k0_hw8 => k0_hw8
def k0_off6 (i : grid0.Coords) (c192_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v77 : BitVec 32 := Scalar.addi v2 c192_i32
  let c0_i32_35 : BitVec 32 := 0#32
  ![v77.toNat, 0]

def k0_chk9 (v84 : IVec S16 32) (v85 : IVec S16 32) : Prop :=
  (∀ a x, ((![v84, v85] : Fin 2 → IVec S16 32) a x).toNat < S32x1000.size a)
theorem k0_idx9_inb : ∀ (v84 : IVec S16 32) (v85 : IVec S16 32) (k0_hw9 : k0_chk9 v84 v85), ∀ a x, ((![v84, v85] : Fin 2 → IVec S16 32) a x).toNat < S32x1000.size a := fun v84 v85 k0_hw9 => k0_hw9

def k0_chk10 (v90 : IVec S16 32) (v91 : IVec S16 32) : Prop :=
  (∀ a x, ((![v90, v91] : Fin 2 → IVec S16 32) a x).toNat < S32x1000.size a)
theorem k0_idx10_inb : ∀ (v90 : IVec S16 32) (v91 : IVec S16 32) (k0_hw10 : k0_chk10 v90 v91), ∀ a x, ((![v90, v91] : Fin 2 → IVec S16 32) a x).toNat < S32x1000.size a := fun v90 v91 k0_hw10 => k0_hw10
def k0_off7 (i : grid0.Coords) (c224_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v94 : BitVec 32 := Scalar.addi v2 c224_i32
  let c0_i32_43 : BitVec 32 := 0#32
  ![v94.toNat, 0]

def k0_chk11 (v101 : IVec S16 32) (v102 : IVec S16 32) : Prop :=
  (∀ a x, ((![v101, v102] : Fin 2 → IVec S16 32) a x).toNat < S32x1000.size a)
theorem k0_idx11_inb : ∀ (v101 : IVec S16 32) (v102 : IVec S16 32) (k0_hw11 : k0_chk11 v101 v102), ∀ a x, ((![v101, v102] : Fin 2 → IVec S16 32) a x).toNat < S32x1000.size a := fun v101 v102 k0_hw11 => k0_hw11

def k0_chk12 (v107 : IVec S16 32) (v108 : IVec S16 32) : Prop :=
  (∀ a x, ((![v107, v108] : Fin 2 → IVec S16 32) a x).toNat < S32x1000.size a)
theorem k0_idx12_inb : ∀ (v107 : IVec S16 32) (v108 : IVec S16 32) (k0_hw12 : k0_chk12 v107 v108), ∀ a x, ((![v107, v108] : Fin 2 → IVec S16 32) a x).toNat < S32x1000.size a := fun v107 v108 k0_hw12 => k0_hw12
def k0_off8 (i : grid0.Coords) (c256_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v111 : BitVec 32 := Scalar.addi v2 c256_i32
  let c0_i32_51 : BitVec 32 := 0#32
  ![v111.toNat, 0]

def k0_chk13 (v118 : IVec S16 32) (v119 : IVec S16 32) : Prop :=
  (∀ a x, ((![v118, v119] : Fin 2 → IVec S16 32) a x).toNat < S32x1000.size a)
theorem k0_idx13_inb : ∀ (v118 : IVec S16 32) (v119 : IVec S16 32) (k0_hw13 : k0_chk13 v118 v119), ∀ a x, ((![v118, v119] : Fin 2 → IVec S16 32) a x).toNat < S32x1000.size a := fun v118 v119 k0_hw13 => k0_hw13

def k0_chk14 (v124 : IVec S16 32) (v125 : IVec S16 32) : Prop :=
  (∀ a x, ((![v124, v125] : Fin 2 → IVec S16 32) a x).toNat < S32x1000.size a)
theorem k0_idx14_inb : ∀ (v124 : IVec S16 32) (v125 : IVec S16 32) (k0_hw14 : k0_chk14 v124 v125), ∀ a x, ((![v124, v125] : Fin 2 → IVec S16 32) a x).toNat < S32x1000.size a := fun v124 v125 k0_hw14 => k0_hw14
def k0_off9 (i : grid0.Coords) (c288_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v128 : BitVec 32 := Scalar.addi v2 c288_i32
  let c0_i32_59 : BitVec 32 := 0#32
  ![v128.toNat, 0]

def k0_chk15 (v135 : IVec S16 32) (v136 : IVec S16 32) : Prop :=
  (∀ a x, ((![v135, v136] : Fin 2 → IVec S16 32) a x).toNat < S32x1000.size a)
theorem k0_idx15_inb : ∀ (v135 : IVec S16 32) (v136 : IVec S16 32) (k0_hw15 : k0_chk15 v135 v136), ∀ a x, ((![v135, v136] : Fin 2 → IVec S16 32) a x).toNat < S32x1000.size a := fun v135 v136 k0_hw15 => k0_hw15

def k0_chk16 (v141 : IVec S16 32) (v142 : IVec S16 32) : Prop :=
  (∀ a x, ((![v141, v142] : Fin 2 → IVec S16 32) a x).toNat < S32x1000.size a)
theorem k0_idx16_inb : ∀ (v141 : IVec S16 32) (v142 : IVec S16 32) (k0_hw16 : k0_chk16 v141 v142), ∀ a x, ((![v141, v142] : Fin 2 → IVec S16 32) a x).toNat < S32x1000.size a := fun v141 v142 k0_hw16 => k0_hw16
def k0_off10 (i : grid0.Coords) (c320_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v145 : BitVec 32 := Scalar.addi v2 c320_i32
  let c0_i32_67 : BitVec 32 := 0#32
  ![v145.toNat, 0]

def k0_chk17 (v152 : IVec S16 32) (v153 : IVec S16 32) : Prop :=
  (∀ a x, ((![v152, v153] : Fin 2 → IVec S16 32) a x).toNat < S32x1000.size a)
theorem k0_idx17_inb : ∀ (v152 : IVec S16 32) (v153 : IVec S16 32) (k0_hw17 : k0_chk17 v152 v153), ∀ a x, ((![v152, v153] : Fin 2 → IVec S16 32) a x).toNat < S32x1000.size a := fun v152 v153 k0_hw17 => k0_hw17

def k0_chk18 (v158 : IVec S16 32) (v159 : IVec S16 32) : Prop :=
  (∀ a x, ((![v158, v159] : Fin 2 → IVec S16 32) a x).toNat < S32x1000.size a)
theorem k0_idx18_inb : ∀ (v158 : IVec S16 32) (v159 : IVec S16 32) (k0_hw18 : k0_chk18 v158 v159), ∀ a x, ((![v158, v159] : Fin 2 → IVec S16 32) a x).toNat < S32x1000.size a := fun v158 v159 k0_hw18 => k0_hw18
def k0_off11 (i : grid0.Coords) (c352_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v162 : BitVec 32 := Scalar.addi v2 c352_i32
  let c0_i32_75 : BitVec 32 := 0#32
  ![v162.toNat, 0]

def k0_chk19 (v169 : IVec S16 32) (v170 : IVec S16 32) : Prop :=
  (∀ a x, ((![v169, v170] : Fin 2 → IVec S16 32) a x).toNat < S32x1000.size a)
theorem k0_idx19_inb : ∀ (v169 : IVec S16 32) (v170 : IVec S16 32) (k0_hw19 : k0_chk19 v169 v170), ∀ a x, ((![v169, v170] : Fin 2 → IVec S16 32) a x).toNat < S32x1000.size a := fun v169 v170 k0_hw19 => k0_hw19

def k0_chk20 (v175 : IVec S16 32) (v176 : IVec S16 32) : Prop :=
  (∀ a x, ((![v175, v176] : Fin 2 → IVec S16 32) a x).toNat < S32x1000.size a)
theorem k0_idx20_inb : ∀ (v175 : IVec S16 32) (v176 : IVec S16 32) (k0_hw20 : k0_chk20 v175 v176), ∀ a x, ((![v175, v176] : Fin 2 → IVec S16 32) a x).toNat < S32x1000.size a := fun v175 v176 k0_hw20 => k0_hw20
def k0_off12 (i : grid0.Coords) (c384_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v179 : BitVec 32 := Scalar.addi v2 c384_i32
  let c0_i32_83 : BitVec 32 := 0#32
  ![v179.toNat, 0]

def k0_chk21 (v186 : IVec S16 32) (v187 : IVec S16 32) : Prop :=
  (∀ a x, ((![v186, v187] : Fin 2 → IVec S16 32) a x).toNat < S32x1000.size a)
theorem k0_idx21_inb : ∀ (v186 : IVec S16 32) (v187 : IVec S16 32) (k0_hw21 : k0_chk21 v186 v187), ∀ a x, ((![v186, v187] : Fin 2 → IVec S16 32) a x).toNat < S32x1000.size a := fun v186 v187 k0_hw21 => k0_hw21

def k0_chk22 (v192 : IVec S16 32) (v193 : IVec S16 32) : Prop :=
  (∀ a x, ((![v192, v193] : Fin 2 → IVec S16 32) a x).toNat < S32x1000.size a)
theorem k0_idx22_inb : ∀ (v192 : IVec S16 32) (v193 : IVec S16 32) (k0_hw22 : k0_chk22 v192 v193), ∀ a x, ((![v192, v193] : Fin 2 → IVec S16 32) a x).toNat < S32x1000.size a := fun v192 v193 k0_hw22 => k0_hw22
def k0_off13 (i : grid0.Coords) (c416_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v196 : BitVec 32 := Scalar.addi v2 c416_i32
  let c0_i32_91 : BitVec 32 := 0#32
  ![v196.toNat, 0]

def k0_chk23 (v203 : IVec S16 32) (v204 : IVec S16 32) : Prop :=
  (∀ a x, ((![v203, v204] : Fin 2 → IVec S16 32) a x).toNat < S32x1000.size a)
theorem k0_idx23_inb : ∀ (v203 : IVec S16 32) (v204 : IVec S16 32) (k0_hw23 : k0_chk23 v203 v204), ∀ a x, ((![v203, v204] : Fin 2 → IVec S16 32) a x).toNat < S32x1000.size a := fun v203 v204 k0_hw23 => k0_hw23

def k0_chk24 (v209 : IVec S16 32) (v210 : IVec S16 32) : Prop :=
  (∀ a x, ((![v209, v210] : Fin 2 → IVec S16 32) a x).toNat < S32x1000.size a)
theorem k0_idx24_inb : ∀ (v209 : IVec S16 32) (v210 : IVec S16 32) (k0_hw24 : k0_chk24 v209 v210), ∀ a x, ((![v209, v210] : Fin 2 → IVec S16 32) a x).toNat < S32x1000.size a := fun v209 v210 k0_hw24 => k0_hw24
def k0_off14 (i : grid0.Coords) (c448_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v213 : BitVec 32 := Scalar.addi v2 c448_i32
  let c0_i32_99 : BitVec 32 := 0#32
  ![v213.toNat, 0]

def k0_chk25 (v220 : IVec S16 32) (v221 : IVec S16 32) : Prop :=
  (∀ a x, ((![v220, v221] : Fin 2 → IVec S16 32) a x).toNat < S32x1000.size a)
theorem k0_idx25_inb : ∀ (v220 : IVec S16 32) (v221 : IVec S16 32) (k0_hw25 : k0_chk25 v220 v221), ∀ a x, ((![v220, v221] : Fin 2 → IVec S16 32) a x).toNat < S32x1000.size a := fun v220 v221 k0_hw25 => k0_hw25

def k0_chk26 (v226 : IVec S16 32) (v227 : IVec S16 32) : Prop :=
  (∀ a x, ((![v226, v227] : Fin 2 → IVec S16 32) a x).toNat < S32x1000.size a)
theorem k0_idx26_inb : ∀ (v226 : IVec S16 32) (v227 : IVec S16 32) (k0_hw26 : k0_chk26 v226 v227), ∀ a x, ((![v226, v227] : Fin 2 → IVec S16 32) a x).toNat < S32x1000.size a := fun v226 v227 k0_hw26 => k0_hw26
def k0_off15 (i : grid0.Coords) (c480_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v230 : BitVec 32 := Scalar.addi v2 c480_i32
  let c0_i32_107 : BitVec 32 := 0#32
  ![v230.toNat, 0]

def k0_chk27 (v237 : IVec S16 32) (v238 : IVec S16 32) : Prop :=
  (∀ a x, ((![v237, v238] : Fin 2 → IVec S16 32) a x).toNat < S32x1000.size a)
theorem k0_idx27_inb : ∀ (v237 : IVec S16 32) (v238 : IVec S16 32) (k0_hw27 : k0_chk27 v237 v238), ∀ a x, ((![v237, v238] : Fin 2 → IVec S16 32) a x).toNat < S32x1000.size a := fun v237 v238 k0_hw27 => k0_hw27

def k0_chk28 (v243 : IVec S16 32) (v244 : IVec S16 32) : Prop :=
  (∀ a x, ((![v243, v244] : Fin 2 → IVec S16 32) a x).toNat < S32x1000.size a)
theorem k0_idx28_inb : ∀ (v243 : IVec S16 32) (v244 : IVec S16 32) (k0_hw28 : k0_chk28 v243 v244), ∀ a x, ((![v243, v244] : Fin 2 → IVec S16 32) a x).toNat < S32x1000.size a := fun v243 v244 k0_hw28 => k0_hw28
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c448_i32 : BitVec 32 := 448#32
  let v213 : BitVec 32 := Scalar.addi v2 c448_i32
  let c0_i32_115 : BitVec 32 := 0#32
  ![v213.toNat, 0]

def k0_chk29 (v251 : IVec S16 32) (v252 : IVec S16 32) : Prop :=
  (∀ a x, ((![v251, v252] : Fin 2 → IVec S16 32) a x).toNat < S32x1000.size a)
theorem k0_idx29_inb : ∀ (v251 : IVec S16 32) (v252 : IVec S16 32) (k0_hw29 : k0_chk29 v251 v252), ∀ a x, ((![v251, v252] : Fin 2 → IVec S16 32) a x).toNat < S32x1000.size a := fun v251 v252 k0_hw29 => k0_hw29

def k0_chk30 (v257 : IVec S16 32) (v258 : IVec S16 32) : Prop :=
  (∀ a x, ((![v257, v258] : Fin 2 → IVec S16 32) a x).toNat < S32x1000.size a)
theorem k0_idx30_inb : ∀ (v257 : IVec S16 32) (v258 : IVec S16 32) (k0_hw30 : k0_chk30 v257 v258), ∀ a x, ((![v257, v258] : Fin 2 → IVec S16 32) a x).toNat < S32x1000.size a := fun v257 v258 k0_hw30 => k0_hw30
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c480_i32 : BitVec 32 := 480#32
  let v230 : BitVec 32 := Scalar.addi v2 c480_i32
  let c0_i32_121 : BitVec 32 := 0#32
  ![v230.toNat, 0]

def k0_chk31 (v265 : IVec S16 32) (v266 : IVec S16 32) : Prop :=
  (∀ a x, ((![v265, v266] : Fin 2 → IVec S16 32) a x).toNat < S32x1000.size a)
theorem k0_idx31_inb : ∀ (v265 : IVec S16 32) (v266 : IVec S16 32) (k0_hw31 : k0_chk31 v265 v266), ∀ a x, ((![v265, v266] : Fin 2 → IVec S16 32) a x).toNat < S32x1000.size a := fun v265 v266 k0_hw31 => k0_hw31

def k0_chk32 (v271 : IVec S16 32) (v272 : IVec S16 32) : Prop :=
  (∀ a x, ((![v271, v272] : Fin 2 → IVec S16 32) a x).toNat < S32x1000.size a)
theorem k0_idx32_inb : ∀ (v271 : IVec S16 32) (v272 : IVec S16 32) (k0_hw32 : k0_chk32 v271 v272), ∀ a x, ((![v271, v272] : Fin 2 → IVec S16 32) a x).toNat < S32x1000.size a := fun v271 v272 k0_hw32 => k0_hw32
def k0_off18 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]
-- ==== Proof.Ring.lean ====
/-
  The task's program, written as the ring it is. The kernel's text is unrolled: sixteen windows of thirty-two rows of
  the table, each fetched into one of three buffers in turn, two fetches ahead. Here the same program is given by
  recursion on the number of windows left (`ringFrom`), out of one window's step (`stepThen`) and one sixteen-lane
  selection (`selectThen`), each written with the rest of the program as an argument; and the kernel is proved to be
  that program (`kernel_eq`). Everything after this module is proved once for a step and not sixteen or thirty-two times.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton

@[expose] public section

noncomputable section

namespace Cert.Proof.RowPick

open Cert.KernelIdeal Cert.KernelIdeal.Gen

open Idealize.ShloMosaic
open Idealize.SL.Sem

variable {F : FTy → Type} [FloatOps F]

/-- A program of the task at grid point `i`. -/
abbrev TaskProg (F : FTy → Type) (i : grid0.Coords) : Type 1 :=
  Prog (TpuEff nD τ sig (Elt F) Λ₀ (.scVector ((i 0).castLE hcore0) ((i 1).castLE hsub0))) PUnit

/-! ## The arrays and scratches -/

/-- The table, whole. -/
abbrev xM : Memref sig .scVector .hbm S16384x1000 .f32 := Memref.whole main_arg0_scv
/-- The labels, whole. -/
abbrev yM : Memref sig .scVector .hbm S16384 .i32 := Memref.whole main_arg1_scv
/-- The result, whole. -/
abbrev oM : Memref sig .scVector .hbm S16384 .f32 := Memref.whole main_v0_scv
/-- The task's labels. -/
abbrev yScr : Memref sig .scVector .vmem S512 .i32 := Memref.whole cc0_scratch0
/-- The task's selected values. -/
abbrev vScr : Memref sig .scVector .vmem S512 .f32 := Memref.whole cc0_scratch4

/-- The ring's buffers. -/
def bufM : Fin 3 → Memref sig .scVector .vmem S32x1000 .f32
  | 0 => Memref.whole cc0_scratch1
  | 1 => Memref.whole cc0_scratch2
  | 2 => Memref.whole cc0_scratch3

/-- The ring's semaphores, one per buffer. -/
def semM : Fin 3 → DmaSem sig
  | 0 => cc0_scratch5.sem
  | 1 => cc0_scratch6.sem
  | 2 => cc0_scratch7.sem

/-- Each buffer is a whole scratch. -/
theorem bufM_whole (s : Fin 3) : (bufM s).IsWhole := by
  match s with
  | 0 => exact Memref.isWhole_whole _
  | 1 => exact Memref.isWhole_whole _
  | 2 => exact Memref.isWhole_whole _

/-- The buffer window `w` is fetched into. -/
abbrev slot (w : Nat) : Fin 3 := ⟨w % 3, Nat.mod_lt _ (by decide)⟩

/-! ## The windows -/

/-- Where window `w` of the task at `i` starts: row `1024 * subcore + 512 * core + 32 * w`. -/
theorem xoff_eq (i : grid0.Coords) (w : Fin 16) :
    k0_off2 i (BitVec.ofNat 32 (32 * w.val)) = ![1024 * (i 1).val + 512 * (i 0).val + 32 * w.val, 0] := by
  revert i w; decide +kernel

/-- A window lies in the table. -/
theorem xoff_inb (i : grid0.Coords) (w : Fin 16) :
    ∀ a, (k0_off2 i (BitVec.ofNat 32 (32 * w.val))) a + S32x1000.size a ≤ S16384x1000.size a := by
  revert i w; decide +kernel

/-- Window `w`'s rectangle of the table: thirty-two rows. -/
abbrev xRect (i : grid0.Coords) (w : Nat) (hw : w < 16) : Rect S16384x1000 :=
  Rect.unit (s := S16384x1000) (k0_off2 i (BitVec.ofNat 32 (32 * w))) S32x1000.size (xoff_inb i ⟨w, hw⟩)

/-- Window `w` of the table: thirty-two rows. -/
abbrev xWin (i : grid0.Coords) (w : Nat) (hw : w < 16) : Memref sig .scVector .hbm S32x1000 .f32 :=
  xM.slice (xRect i w hw) (fun _ => rfl)

/-- The task's labels, in the array of all of them. -/
abbrev ySl (i : grid0.Coords) : Memref sig .scVector .hbm S512 .i32 :=
  yM.slice (Rect.unit (s := S16384) (k0_off1 i) S512.size (k0_off1_inb i)) (fun _ => rfl)

/-- The task's part of the result. -/
abbrev oSl (i : grid0.Coords) : Memref sig .scVector .hbm S512 .f32 :=
  oM.slice (Rect.unit (s := S16384) (k0_off18 i) S512.size (k0_off18_inb i)) (fun _ => rfl)

/-- Sixteen lanes from `o` lie in a scratch of 512. -/
theorem inb16 (o : Nat) (ho : o + 16 ≤ 512) : ∀ a, (![o] : Fin 1 → Nat) a + S16.size a ≤ S512.size a := by
  intro a; match a with | 0 => exact ho

/-- Sixteen lanes of a five-hundred-and-twelve-lane scratch, from `o`. -/
abbrev lanes (o : Nat) (ho : o + 16 ≤ 512) : Rect S512 := Rect.unit (s := S512) ![o] S16.size (inb16 o ho)

/-- The rows of a buffer one selection reads: `c`, `c + 1`, …, `c + 15`. -/
abbrev rowsOf (c : BitVec 32) : IVec S16 32 :=
  addi (iota .scVector S16 32 [0] iota_S16_d0_w32_scVector) (broadcast S16 c)

/-! ## The program -/

/-- Fetch window `w` into its buffer, then `k`. -/
def fetchThen (i : grid0.Coords) (w : Nat) (hw : w < 16) (k : TaskProg F i) : TaskProg F i :=
  .op (.enqueueDma (xWin i w hw) (.here (bufM (slot w))) (.dma (semM (slot w))) (View.wordExact_bits rfl)
    (bufM_whole _).wordExact ⟨Or.inl rfl, trivial⟩) fun _ => k

/-- Wait for window `w`, then `k`. -/
def waitThen (i : grid0.Coords) (w : Nat) (hw : w < 16) (k : TaskProg F i) : TaskProg F i :=
  .op (.waitDma2 (semM (slot w)) (xWin i w hw) (bufM (slot w)) (View.wordExact_bits rfl) (bufM_whole _).wordExact)
    fun _ => k

/-- Sixteen lanes of the task's values from `o`: the labels there read, checked to be columns, and used with rows
    `c`, `c + 1`, … to read buffer `b`; then `k`. -/
def selectThen (i : grid0.Coords) (b : Memref sig .scVector .vmem S32x1000 .f32) (o : Nat) (ho : o + 16 ≤ 512)
    (c : BitVec 32) (k : TaskProg F i) : TaskProg F i :=
  .op (.load yScr (lanes o ho).toLoadRect (View.loadsAt_vmem h_S16)) fun (y : Vec F S16 .i32) =>
  .op (TpuEff.assume (k0_chk1 (rowsOf c) y) (k0_chk1.dec (rowsOf c) y)) fun h =>
  (SparseCore.vectorLoadIdx b ![rowsOf c, y] (k0_idx1_inb (rowsOf c) y h.down) (View.loads_vmem h_S32x1000)).bind fun v =>
  .op (.load vScr (lanes o ho).toLoadRect (View.loadsAt_vmem h_S16)) fun _ =>
  .op (.store vScr (lanes o ho) v Finset.univ (View.stores_vmem_bits_univ h_S16 rfl) (.inl rfl)) fun _ => k

/-- Window `w`'s step: wait for it, select its thirty-two values, and fetch the window three further on into the
    buffer it leaves, if there is one; then `k`. -/
def stepThen (i : grid0.Coords) (w : Nat) (hw : w < 16) (k : TaskProg F i) : TaskProg F i :=
  waitThen i w hw <|
  selectThen i (bufM (slot w)) (32 * w) (by omega) 0#32 <|
  selectThen i (bufM (slot w)) (32 * w + 16) (by omega) 16#32 <|
  if h : w + 3 < 16 then fetchThen i (w + 3) h k else k

/-- The `n` windows left from `w` on, then `k`. -/
def ringFrom (i : grid0.Coords) : (n w : Nat) → w + n = 16 → TaskProg F i → TaskProg F i
  | 0, _, _, k => k
  | n + 1, w, h, k => stepThen i w (by omega) (ringFrom i n (w + 1) (by omega) k)

/-- Fetch the task's labels and wait for them, then `k`. -/
def labelsThen (i : grid0.Coords) (k : TaskProg F i) : TaskProg F i :=
  .op (.enqueueDma (ySl i) (.here yScr) (.dma cc0_scoped0.sem) (View.wordExact_bits rfl)
    (Memref.isWhole_whole _).wordExact ⟨Or.inl rfl, trivial⟩) fun _ =>
  .op (.waitDma2 cc0_scoped0.sem (ySl i) yScr (View.wordExact_bits rfl) (Memref.isWhole_whole _).wordExact) fun _ => k

/-- Write the task's values out and wait for that. -/
def writeOut (i : grid0.Coords) : TaskProg F i :=
  .op (.enqueueDma vScr (.here (oSl i)) (.dma cc0_scoped1.sem) (Memref.isWhole_whole _).wordExact
    (View.wordExact_bits rfl) ⟨Or.inl rfl, trivial⟩) fun _ =>
  .op (.waitDma2 cc0_scoped1.sem vScr (oSl i) (Memref.isWhole_whole _).wordExact (View.wordExact_bits rfl)) fun _ =>
  .ret ⟨⟩

/-- The whole task. -/
def task (i : grid0.Coords) : TaskProg F i :=
  labelsThen i <| fetchThen i 0 (by decide) <| fetchThen i 1 (by decide) <| fetchThen i 2 (by decide) <|
  ringFrom i 16 0 rfl (writeOut i)

/-- The kernel at its launch's operands. -/
abbrev kernelAt (i : grid0.Coords) : TaskProg F i :=
  cc0_gather_kernel i (Memref.whole main_arg0_scv) (Memref.isWhole_whole _) (Memref.whole main_arg1_scv)
    (Memref.isWhole_whole _) (Memref.whole main_v0_scv) (Memref.isWhole_whole _) (Memref.whole cc0_scratch0)
    (Memref.isWhole_whole _) (Memref.whole cc0_scratch1) (Memref.isWhole_whole _) (Memref.whole cc0_scratch2)
    (Memref.isWhole_whole _) (Memref.whole cc0_scratch3) (Memref.isWhole_whole _) (Memref.whole cc0_scratch4)
    (Memref.isWhole_whole _) cc0_scratch5 cc0_scratch6 cc0_scratch7 cc0_scoped0 cc0_scoped1

set_option maxRecDepth 100000 in
set_option maxHeartbeats 4000000 in
/-- The kernel's unrolled text is the ring. -/
theorem kernel_eq (i : grid0.Coords) : kernelAt (F := F) i = task i := by
  rfl

end Cert.Proof.RowPick

end
-- ==== Proof.Setup.lean ====
/-
  What the task's proof and the launch's share: the program as the launch theorem sees it, the ghost state (the
  launch's handshakes, and counters for the copies in flight), the arrays as locations of a device, the value the
  result is to hold (`gold`), and what is asked of the labels (`PreOK`: each below a thousand).
-/
module

public import proofs.«01_k».proof.Proof.Ring
public import Idealize.ShloMosaic.Lib.Pipeline.Kit

@[expose] public section

noncomputable section

namespace Cert.Proof.RowPick

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call is a well-formed SparseCore call of this machine. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

/-- The launch handshakes' rounds. -/
abbrev UH : Type := URounds (GSem nD τ sig) ℕ
/-- The handshakes' rounds, and the counters of the copies in flight. -/
abbrev UU : Type := UH × Counters

local notation "𝕄" => MT nD τ sig (HIx 1) (Elt F) ℕ UU ℕ

/-- Where the handshakes' rounds sit. -/
abbrev EH : Emb UH (MT nD τ sig (HIx 1) (Elt F) ℕ UU ℕ) := embL

/-- Where the counters of the copies in flight sit. -/
abbrev EC : UEmb Counters (MT nD τ sig (HIx 1) (Elt F) ℕ UU ℕ) := countersEmb

/-! ## The arrays, and the value of the result -/

/-- The table's place on device `d`. -/
abbrev xLoc (d : Dev nD) : Loc nD τ sig := (SparseCore.T d).loc main_arg0
/-- The labels' place. -/
abbrev yLoc (d : Dev nD) : Loc nD τ sig := (SparseCore.T d).loc main_arg1
/-- The result's place. -/
abbrev oLoc (d : Dev nD) : Loc nD τ sig := (SparseCore.T d).loc main_v0

/-- Row `r`, column `c` of the table. -/
def at2 (r : Fin 16384) (c : Fin 1000) : S16384x1000.Idx :=
  fun | 0 => r | 1 => c | ⟨_ + 2, h⟩ => absurd h (Nat.not_lt.2 (Nat.le_add_left _ _))

/-- The result: of each row of the table, the element in the column its label names. -/
def gold (x : S16384x1000.Idx → Elt F .f32) (y : S16384.Idx → BitVec 32) : S16384.Idx → Elt F .f32 :=
  fun j => x (at2 (j 0) ⟨(y j).toNat % 1000, Nat.mod_lt _ (by decide)⟩)

/-- What the proof asks of the launch memory: every label is below a thousand. -/
def PreOK (m : (ℓ : Loc nD τ sig) → Buf (Elt F) ℓ) : Prop :=
  ∀ (d : Dev nD) (j : S16384.Idx), (show BitVec 32 from m (yLoc d) j).toNat < 1000

/-- The subcore that runs the task at grid point `i`. -/
abbrev thr (d : Dev nD) (i : grid0.Coords) : Thread nD τ := V d ((i 0).castLE hcore0) ((i 1).castLE hsub0)

end Cert.Proof.RowPick

end
-- ==== Proof.Tile.lean ====
/-
  One task. Rules for a copy, for its wait and for a sixteen-lane selection, each proved once; then the ring by
  induction on the windows left; then the whole task.
-/
module

public import proofs.«01_k».proof.Proof.Setup

@[expose] public section

noncomputable section

namespace Cert.Proof.RowPick

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Rules

variable [FloatOps F] (d : Dev nD) (i : grid0.Coords)

/-- The debt `O`, and a record of waits that adds to `W` only waits at no index of the launch's. -/
def owed (O : CellTallies nD τ sig (HIx 1)) (W : Waits sig (HIx 1)) : sProp 𝕄 :=
  iprop(∃ W', ⌜∀ p ∈ W', p ∈ W ∨ p.2 = none⌝ ∗ owes (thr d i) O W')

/-- A copy of a memref onto another, both this subcore's to use: in flight, it will hand back the target reading what
    the source reads, and the source. -/
theorem wp_copy {sp sp' : Space} {s : Shape} {e : EltTy} {src : Memref sig .scVector sp s e}
    {dst : Memref sig .scVector sp' s e} {sem : DmaSem sig} {hsrc : src.view.WordExact} {hdst : dst.view.WordExact}
    {hsem : DmaTarget.Typed (nD := nD) sp (SemLoc.dma sem) (DmaTarget.here (p := (thr d i).2) dst)} (hs : 0 < s.numel) {k : PUnit → TaskProg F i}
    {Q : PUnit → sProp 𝕄} (fs : Buf (Elt F) (src.view.loc (thr d i))) :
    iprop((src.view.loc (thr d i) ↦[src.view.set]{fullShare} fs) ∗ (∃ X, owns (thr d i) dst fullShare X)
        ∗ semVal (thr d i, .dma sem) 0)
      ⊢ iprop((Transfers.Flight EC (thr d i) (.dma sem) none dst.view.dmaCredit
                  iprop(owns (thr d i) dst fullShare (src.view.read (Elt F) fs)
                    ∗ (src.view.loc (thr d i) ↦[src.view.set]{fullShare} fs))
              -∗ wp frame (wpE (defs₀ (F := F)) 𝒱₀ (thr d i) none) Set.univ (k ⟨⟩) Q)
          -∗ wp frame (wpE (defs₀ (F := F)) 𝒱₀ (thr d i) none) Set.univ
              (.op (.enqueueDma src (.here dst) (.dma sem) hsrc hdst hsem) k) Q) := by
  iintro ⟨Hs, ⟨%X, Hd⟩, Hv⟩ Hk
  unfold owns
  icases Hd with ⟨%fd, -, Hd⟩
  iapply (Transfers.wp_dmaLocal EC 𝒱₀ (thr d i) none (src := src) (dst := dst) (sm := .dma sem) (q := fullShare) (fs := fs)
    (fd := fd) (Sd := dst.view.set) none dst.view.dmaCredit rfl (View.dmaCredit_pos _ hs) (Finset.Subset.refl _)) $$ [Hs Hd Hv]
  · isplitl [Hs]; · iexact Hs
    isplitl [Hd]; · iexact Hd
    iexact Hv
  iintro Hf
  iapply Hk
  iapply (Transfers.Flight_mono ?h) $$ Hf
  iintro ⟨Hd, Hs⟩
  isplitr [Hs]
  · iexists (dst.view.write (Elt F) fd (src.view.read (Elt F) fs) Finset.univ)
    isplitr
    · ipureintro; exact View.read_write_univ _ _
    · iexact Hd
  · iexact Hs

/-- The wait for a copy in flight hands back what the copy leaves, and its semaphore at zero. -/
theorem wp_wait {sp sp' : Space} {s : Shape} {e : EltTy} {src : Memref sig .scVector sp s e}
    {dst : Memref sig .scVector sp' s e} {sem : DmaSem sig} {hsrc : src.view.WordExact} {hdst : dst.view.WordExact}
    {k : PUnit → TaskProg F i} {Q : PUnit → sProp 𝕄} {R : sProp 𝕄} {O : CellTallies nD τ sig (HIx 1)}
    {W : Waits sig (HIx 1)} :
    iprop(Transfers.Flight EC (thr d i) (.dma sem) none dst.view.dmaCredit R ∗ owed d i O W
        ∗ Transfers.MayWaits (thr d i) none O)
      ⊢ iprop((iprop(R ∗ semVal (thr d i, .dma sem) 0 ∗ owed d i O W)
              -∗ wp frame (wpE (defs₀ (F := F)) 𝒱₀ (thr d i) none) Set.univ (k ⟨⟩) Q)
          -∗ wp frame (wpE (defs₀ (F := F)) 𝒱₀ (thr d i) none) Set.univ
              (.op (.waitDma2 sem src dst hsrc hdst) k) Q) := by
  unfold owed
  iintro ⟨Hf, ⟨%W', %hW', HO⟩, Hw⟩ Hk
  iapply (Transfers.wp_waitLocalO EC 𝒱₀ (thr d i) none (srcw := src) (dstw := dst) none rfl (W := W')) $$ [Hf HO Hw]
  · isplitl [Hf]; · iexact Hf
    isplitl [HO]; · iexact HO
    iapply (Transfers.MayWaits.elim (SemLoc.dma sem)); iexact Hw
  iintro ⟨HR, Hv, HO⟩
  iapply Hk
  isplitl [HR]; · iexact HR
  isplitl [Hv]; · iexact Hv
  iexists _
  isplitr [HO]; rotate_left
  · iexact HO
  · ipureintro
    intro p hp
    rcases Finset.mem_insert.mp hp with rfl | hp
    · exact .inr rfl
    · exact hW' p hp

/-- The scratch of values, its first `n` lanes at `v`. -/
def vals (v : S512.Idx → Elt F .f32) (n : Nat) : sProp 𝕄 :=
  iprop(∃ f : Buf (Elt F) ((thr d i).loc cc0_scratch4), ⌜∀ j : S512.Idx, (j 0).val < n → f j = v j⌝
    ∗ ((thr d i).loc cc0_scratch4) ↦{fullShare} f)

/-- Lane `l` of the sixteen from `o` is the scratch's element `o + l`. -/
theorem lanes_emb (o : Nat) (ho : o + 16 ≤ 512) (l : (lanes o ho).shape.Idx) (a : Fin 1) :
    ((lanes o ho).emb l a).val = o + (l a).val := by
  obtain rfl : a = 0 := Subsingleton.elim _ _
  show o + 1 * (l 0).val = _
  omega

/-- A sixteen-lane selection whose labels are columns: the lanes it stores hold what the buffer holds at the rows and
    the labels. -/
theorem wp_select (b : Memref sig .scVector .vmem S32x1000 .f32) (o : Nat) (ho : o + 16 ≤ 512) (c : BitVec 32)
    (k : TaskProg F i) {Q : PUnit → sProp 𝕄} (Y : Buf (Elt F) ((thr d i).loc cc0_scratch0)) (G : S32x1000.Idx → Elt F .f32)
    (v : S512.Idx → Elt F .f32)
    (hchk : k0_chk1 (rowsOf c) (fun l => Y ((lanes o ho).emb l)))
    (hG : ∀ l : S16.Idx, loadIdx (F := F) (s := S32x1000) (t := S16) (e := .f32) G ![rowsOf c, fun l => Y ((lanes o ho).emb l)]
      (k0_idx1_inb _ _ hchk) l = v ((lanes o ho).emb l)) :
    iprop((((thr d i).loc cc0_scratch0) ↦{fullShare} Y) ∗ owns (thr d i) b fullShare G ∗ vals d i v o)
      ⊢ iprop((iprop((((thr d i).loc cc0_scratch0) ↦{fullShare} Y) ∗ owns (thr d i) b fullShare G ∗ vals d i v (o + 16))
              -∗ wp frame (wpE (defs₀ (F := F)) 𝒱₀ (thr d i) none) Set.univ k Q)
          -∗ wp frame (wpE (defs₀ (F := F)) 𝒱₀ (thr d i) none) Set.univ (selectThen i b o ho c k) Q) := by
  unfold selectThen vals owns
  iintro ⟨Hy, ⟨%g, %hg, Hb⟩, ⟨%f, %hf, Hv⟩⟩ Hk
  iapply (wp_load 𝒱₀ (thr d i) none Set.univ (m := yScr) (S := Finset.univ) (q := fullShare) (f := Y) (Finset.subset_univ _)) $$ Hy
  iintro Hy
  have hy : (yScr.view.readAt (Elt F) (lanes o ho).toLoadRect Y) = fun l => Y ((lanes o ho).emb l) := by
    funext l; rfl
  rw [hy]
  iapply (wp_assume 𝒱₀ (thr d i) none Set.univ hchk)
  iapply (SparseCore.wp_vectorLoadIdx 𝒱₀ (thr d i) none Set.univ (base := b) (S := b.view.set) (q := fullShare) (f := g) ?hS) $$ Hb
  case hS => exact View.set_slice_subset _ _
  iintro Hb
  iapply (wp_load 𝒱₀ (thr d i) none Set.univ (m := vScr) (S := Finset.univ) (q := fullShare) (f := f) (Finset.subset_univ _)) $$ Hv
  iintro Hv
  iapply (wp_store 𝒱₀ (thr d i) none Set.univ (m := vScr) (r := lanes o ho) (Mk := Finset.univ) (S := Finset.univ) (f := f)
    (Finset.subset_univ _)) $$ Hv
  iintro Hv
  iapply Hk
  isplitl [Hy]; · iexact Hy
  isplitl [Hb]
  · iexists g; isplitr
    · ipureintro; exact hg
    · iexact Hb
  iexists _
  isplitr [Hv]; rotate_left
  · iexact Hv
  · ipureintro
    have hr : ((b.access (.whole S32x1000)).read (Elt F) g) = G := by
      rw [← hg]; funext j
      show b.view.read (Elt F) g ((Rect.whole S32x1000).emb j) = _
      rw [Rect.emb_whole_apply]
    rw [hr]
    intro j hj
    by_cases hjo : o ≤ (j 0).val
    · obtain ⟨l, rfl⟩ : ∃ l : (lanes o ho).shape.Idx, (lanes o ho).emb l = j := by
        refine ⟨fun a => ⟨(j 0).val - o, ?_⟩, ?_⟩
        · have := (j 0).isLt
          change (j 0).val < 512 at this
          obtain rfl : a = 0 := Subsingleton.elim _ _
          show _ < 16
          omega
        funext a
        obtain rfl : a = 0 := Subsingleton.elim _ _
        apply Fin.ext
        rw [lanes_emb]
        show o + ((j 0).val - o) = (j 0).val
        omega
      refine Eq.trans ?_ (hG l)
      exact View.read_slice_write_emb (Val := Elt F) (v := vScr.view) (lanes o ho) f _ (Finset.mem_univ l)
    · refine Eq.trans ?_ (hf j (by omega))
      refine View.read_slice_write_of_not_mem (Val := Elt F) (v := vScr.view) (lanes o ho) f _ _ ?_
      intro hm
      obtain ⟨l, -, rfl⟩ := Finset.mem_map.mp hm
      exact hjo (by rw [lanes_emb]; omega)

/-! ## What the selections of one window read -/

/-- There are two SparseCores -/
theorem core_lt : (i 0).val < 2 := (i 0).isLt
/-- of sixteen subcores each. -/
theorem sub_lt : (i 1).val < 16 := (i 1).isLt

/-- The row of the table the task's lane `n` is about. -/
def rowAt (n : Nat) (hn : n < 512) : Fin 16384 :=
  ⟨1024 * (i 1).val + 512 * (i 0).val + n, by have := core_lt i; have := sub_lt i; omega⟩

/-- The task's values: of each of its rows, the element in the column its label names. -/
def picked (X : S16384x1000.Idx → Elt F .f32) (Y : S512.Idx → BitVec 32) : S512.Idx → Elt F .f32 :=
  fun j => X (at2 (rowAt i (j 0).val (j 0).isLt) ⟨(Y j).toNat % 1000, Nat.mod_lt _ (by decide)⟩)

/-- The rows a selection reads, as numbers. -/
theorem rows_val {c : BitVec 32} (hc : c = 0#32 ∨ c = 16#32) (l : S16.Idx) : (rowsOf c l).toNat = c.toNat + (l 0).val := by
  rcases hc with rfl | rfl <;> revert l <;> decide +kernel

/-- A selection's check passes: its rows are below thirty-two and its labels below a thousand. -/
theorem chk_ok {c : BitVec 32} (hc : c = 0#32 ∨ c = 16#32) (o : Nat) (ho : o + 16 ≤ 512) (Y : S512.Idx → BitVec 32)
    (hY : ∀ j, (Y j).toNat < 1000) : k0_chk1 (rowsOf c) (fun l => Y ((lanes o ho).emb l)) := by
  intro a l
  match a with
  | 0 =>
    show (rowsOf c l).toNat < 32
    rw [rows_val hc]
    have h : (l 0).val < 16 := (l 0).isLt
    rcases hc with rfl | rfl
    · show 0 + _ < 32; omega
    · show 16 + _ < 32; omega
  | 1 => exact hY _

/-- What a selection reads of window `w`: the values of its lanes. -/
theorem select_ok (w : Nat) (hw : w < 16) {c : BitVec 32} (hc : c = 0#32 ∨ c = 16#32) (o : Nat) (ho : o + 16 ≤ 512)
    (hoc : o = 32 * w + c.toNat) (X : Buf (Elt F) ((thr d i).loc main_arg0_scv)) (Y : S512.Idx → BitVec 32)
    (hY : ∀ j, (Y j).toNat < 1000) (l : S16.Idx) :
    loadIdx (F := F) (s := S32x1000) (t := S16) (e := .f32) ((xWin i w hw).view.read (Elt F) X)
        ![rowsOf c, fun l => Y ((lanes o ho).emb l)] (k0_idx1_inb _ _ (chk_ok hc o ho Y hY)) l
      = picked i X Y ((lanes o ho).emb l) := by
  show X ((xRect i w hw).emb (idxAt _ _ l)) = X (at2 _ _)
  refine congrArg X (funext fun a => Fin.ext ?_)
  match a with
  | 0 =>
    show (k0_off2 i (BitVec.ofNat 32 (32 * w))) 0 + 1 * (rowsOf c l).toNat
      = 1024 * (i 1).val + 512 * (i 0).val + ((lanes o ho).emb l 0).val
    rw [rows_val hc, lanes_emb, xoff_eq i ⟨w, hw⟩]
    show 1024 * (i 1).val + 512 * (i 0).val + 32 * w + 1 * _ = _
    omega
  | 1 =>
    show (k0_off2 i (BitVec.ofNat 32 (32 * w))) 1 + 1 * (Y ((lanes o ho).emb l)).toNat
      = (Y ((lanes o ho).emb l)).toNat % 1000
    rw [xoff_eq i ⟨w, hw⟩, Nat.mod_eq_of_lt (hY _)]
    show 0 + _ = _
    omega

/-! ## The ring -/

variable (X : Buf (Elt F) ((thr d i).loc main_arg0_scv)) (Y : Buf (Elt F) ((thr d i).loc cc0_scratch0))

/-- Window `w` of the table, at the table's contents. -/
def winPts (w : Fin 16) : sProp 𝕄 :=
  (xWin i w.val w.isLt).view.loc (thr d i) ↦[(xWin i w.val w.isLt).view.set]{fullShare} X

/-- A buffer of the ring idle, its semaphore at zero. -/
def idle (s : Fin 3) : sProp 𝕄 :=
  iprop((∃ G, owns (thr d i) (bufM s) fullShare G) ∗ semVal (thr d i, .dma (semM s)) 0)

/-- Window `w` in flight to its buffer. -/
def inFlight (w : Nat) (hw : w < 16) : sProp 𝕄 :=
  Transfers.Flight EC (thr d i) (.dma (semM (slot w))) none (bufM (slot w)).view.dmaCredit
    iprop(owns (thr d i) (bufM (slot w)) fullShare ((xWin i w hw).view.read (Elt F) X) ∗ winPts d i X ⟨w, hw⟩)

/-- The buffer of window `w`: the window in flight to it, or, past the last, idle. -/
def pend (w : Nat) : sProp 𝕄 := if hw : w < 16 then inFlight d i X w hw else idle d i (slot w)

/-- The windows from `n` on, and those before `n`. -/
abbrev winsFrom (n : Nat) : Finset (Fin 16) := Finset.univ.filter fun w => n ≤ w.val
/-- The windows before the `n`th. -/
abbrev winsTo (n : Nat) : Finset (Fin 16) := Finset.univ.filter fun w => w.val < n

/-- The windows from the `n`th on are the `n`th and the later ones, -/
theorem winsFrom_step (n : Nat) (hn : n < 16) :
    winsFrom n = insert ⟨n, hn⟩ (winsFrom (n + 1)) ∧ (⟨n, hn⟩ : Fin 16) ∉ winsFrom (n + 1) := by
  refine ⟨Finset.ext fun w => ?_, fun h => ?_⟩
  · simp only [Finset.mem_filter, Finset.mem_univ, true_and, Finset.mem_insert, Fin.ext_iff]; omega
  · simp only [Finset.mem_filter, Finset.mem_univ, true_and] at h; omega

/-- and the windows up to the `n`th are the earlier ones and the `n`th. -/
theorem winsTo_step (n : Nat) (hn : n < 16) :
    winsTo (n + 1) = insert ⟨n, hn⟩ (winsTo n) ∧ (⟨n, hn⟩ : Fin 16) ∉ winsTo n := by
  refine ⟨Finset.ext fun w => ?_, fun h => ?_⟩
  · simp only [Finset.mem_filter, Finset.mem_univ, true_and, Finset.mem_insert, Fin.ext_iff]; omega
  · simp only [Finset.mem_filter, Finset.mem_univ, true_and] at h; omega

/-- From the sixteenth on there are none. -/
theorem winsFrom_none (n : Nat) (hn : 16 ≤ n) : winsFrom n = ∅ := by
  refine Finset.filter_eq_empty_iff.mpr fun w _ => ?_
  have := w.isLt; omega

variable (O : CellTallies nD τ sig (HIx 1)) (W : Waits sig (HIx 1))

/-- What holds with the windows before `w` done. -/
def ring (w : Nat) : sProp 𝕄 :=
  iprop(pend d i X w ∗ pend d i X (w + 1) ∗ pend d i X (w + 2)
    ∗ bigSep (winsFrom (w + 3)) (winPts d i X) ∗ bigSep (winsTo w) (winPts d i X)
    ∗ (((thr d i).loc cc0_scratch0) ↦{fullShare} Y) ∗ vals d i (picked i X Y) (32 * w) ∗ owed d i O W)

/-- A fetch of a window into an idle buffer. -/
theorem wp_fetch (w : Nat) (hw : w < 16) (k : TaskProg F i) {Q : PUnit → sProp 𝕄} :
    iprop(winPts d i X ⟨w, hw⟩ ∗ idle d i (slot w))
      ⊢ iprop((inFlight d i X w hw -∗ wp frame (wpE (defs₀ (F := F)) 𝒱₀ (thr d i) none) Set.univ k Q)
          -∗ wp frame (wpE (defs₀ (F := F)) 𝒱₀ (thr d i) none) Set.univ (fetchThen i w hw k) Q) := by
  unfold idle fetchThen inFlight winPts
  iintro ⟨Hx, Hb, Hv⟩ Hk
  iapply (wp_copy d i (src := xWin i w hw) (dst := bufM (slot w)) (sem := semM (slot w)) (by decide) (k := fun _ => k) X) $$ [Hx Hb Hv]
  · isplitl [Hx]; · iexact Hx
    isplitl [Hb]; · iexact Hb
    iexact Hv
  iexact Hk

/-- One window's step. -/
theorem wp_step_ring (hO : ∀ g, O g none = 0) (hY : ∀ j : S512.Idx, (show BitVec 32 from Y j).toNat < 1000) (w : Nat) (hw : w < 16)
    (k : TaskProg F i) {Q : PUnit → sProp 𝕄} :
    iprop(levAts (K (F := F)).L (K (F := F)).lev ∗ ring d i X Y O W w)
      ⊢ iprop((ring d i X Y O W (w + 1) -∗ wp frame (wpE (defs₀ (F := F)) 𝒱₀ (thr d i) none) Set.univ k Q)
          -∗ wp frame (wpE (defs₀ (F := F)) 𝒱₀ (thr d i) none) Set.univ (stepThen i w hw k) Q) := by
  unfold ring stepThen waitThen
  iintro ⟨#Hlv, Hp0, Hp1, Hp2, Hfrom, Hto, Hy, Hvals, HO⟩ Hk
  ihave Hf := (Entails.of_eq (show pend d i X w = inFlight d i X w hw from dif_pos hw)) $$ Hp0
  unfold inFlight
  iapply (wp_wait d i (W := W)) $$ [Hf HO]
  · isplitl [Hf]; · iexact Hf
    isplitl [HO]; · iexact HO
    iapply ((K (F := F)).mayWaits_none (thr := thr d i) hO); iexact Hlv
  iintro ⟨⟨Hb, Hx⟩, Hv, HO⟩
  iapply (wp_select d i _ (32 * w) _ 0#32 _ Y _ (picked i X Y) (chk_ok (.inl rfl) _ _ Y hY)
    (select_ok d i w hw (.inl rfl) _ _ rfl X Y hY)) $$ [Hy Hb Hvals]
  · isplitl [Hy]; · iexact Hy
    isplitl [Hb]; · iexact Hb
    iexact Hvals
  iintro ⟨Hy, Hb, Hvals⟩
  iapply (wp_select d i _ (32 * w + 16) _ 16#32 _ Y _ (picked i X Y) (chk_ok (.inr rfl) _ _ Y hY)
    (select_ok d i w hw (.inr rfl) _ _ rfl X Y hY)) $$ [Hy Hb Hvals]
  · isplitl [Hy]; · iexact Hy
    isplitl [Hb]; · iexact Hb
    iexact Hvals
  iintro ⟨Hy, Hb, Hvals⟩
  have hslot : slot (w + 3) = slot w := by apply Fin.ext; show (w + 3) % 3 = w % 3; omega
  have hto : iprop(winPts d i X ⟨w, hw⟩ ∗ bigSep (winsTo w) (winPts d i X)) = bigSep (winsTo (w + 1)) (winPts d i X) := by
    rw [(winsTo_step w hw).1, SparseCore.bigSep_insert' (winsTo_step w hw).2]
  ihave Hto' := (Entails.of_eq hto) $$ [Hx Hto]
  · isplitl [Hx]; · iexact Hx
    iexact Hto
  have hvals : vals d i (picked i X Y) (32 * w + 16 + 16) = (vals d i (picked i X Y) (32 * (w + 1)) : sProp 𝕄) := by
    congr 1
  ihave Hvals' := (Entails.of_eq hvals) $$ Hvals
  by_cases h3 : w + 3 < 16
  · rw [dif_pos h3]
    have hfrom : bigSep (winsFrom (w + 3)) (winPts d i X) = iprop(winPts d i X ⟨w + 3, h3⟩ ∗ bigSep (winsFrom (w + 4)) (winPts d i X)) := by
      rw [(winsFrom_step (w + 3) h3).1, SparseCore.bigSep_insert' (winsFrom_step (w + 3) h3).2]
    ihave Hfrom' := (Entails.of_eq hfrom) $$ Hfrom
    icases Hfrom' with ⟨Hx3, Hfrom⟩
    iapply (wp_fetch d i X (w + 3) h3 k) $$ [Hx3 Hb Hv]
    · isplitl [Hx3]; · iexact Hx3
      rw [hslot]; unfold idle
      isplitl [Hb]
      · iexists _; iexact Hb
      iexact Hv
    iintro Hf3
    iapply Hk
    isplitl [Hp1]; · iexact Hp1
    isplitl [Hp2]; · iexact Hp2
    isplitl [Hf3]
    · iapply (Entails.of_eq (show inFlight d i X (w + 3) h3 = pend d i X (w + 3) from (dif_pos h3).symm)); iexact Hf3
    isplitl [Hfrom]; · iexact Hfrom
    isplitl [Hto']; · iexact Hto'
    isplitl [Hy]; · iexact Hy
    isplitl [Hvals']; · iexact Hvals'
    iexact HO
  · rw [dif_neg h3]
    iapply Hk
    isplitl [Hp1]; · iexact Hp1
    isplitl [Hp2]; · iexact Hp2
    isplitl [Hb Hv]
    · iapply (Entails.of_eq (show idle d i (slot (w + 3)) = pend d i X (w + 3) from by unfold pend; rw [dif_neg h3]))
      rw [hslot]; unfold idle
      isplitl [Hb]
      · iexists _; iexact Hb
      iexact Hv
    isplitl [Hfrom]
    · rw [winsFrom_none (w + 1 + 3) (by omega), winsFrom_none (w + 3) (by omega)]; iexact Hfrom
    isplitl [Hto']; · iexact Hto'
    isplitl [Hy]; · iexact Hy
    isplitl [Hvals']; · iexact Hvals'
    iexact HO

/-- The windows left, by induction on their number. -/
theorem wp_ring (hO : ∀ g, O g none = 0) (hY : ∀ j : S512.Idx, (show BitVec 32 from Y j).toNat < 1000) (k : TaskProg F i)
    {Q : PUnit → sProp 𝕄} : ∀ (n w : Nat) (h : w + n = 16),
    iprop(levAts (K (F := F)).L (K (F := F)).lev ∗ ring d i X Y O W w)
      ⊢ iprop((ring d i X Y O W 16 -∗ wp frame (wpE (defs₀ (F := F)) 𝒱₀ (thr d i) none) Set.univ k Q)
          -∗ wp frame (wpE (defs₀ (F := F)) 𝒱₀ (thr d i) none) Set.univ (ringFrom i n w h k) Q)
  | 0, w, h => by
    obtain rfl : w = 16 := h
    iintro ⟨-, Hr⟩ Hk
    iapply Hk; iexact Hr
  | n + 1, w, h => by
    iintro ⟨#Hlv, Hr⟩ Hk
    iapply (wp_step_ring d i X Y O W hO hY w _ _) $$ [Hr]
    · isplitr; · iexact Hlv
      iexact Hr
    iintro Hr
    iapply (wp_ring hO hY k n (w + 1) _) $$ [Hr]
    · isplitr; · iexact Hlv
      iexact Hr
    iexact Hk

/-! ## The subcore's semaphores and scratches -/

/-- The subcore's semaphore `sm`. -/
abbrev cell (sm : DmaSem sig) : GSem nD τ sig := (thr d i, .dma sm)
/-- The subcore's scratch `b`. -/
abbrev scr (b : Ref sig .scVector) : DevRef τ sig := (Proc.scVector ((i 0).castLE hcore0) ((i 1).castLE hsub0)).devRef b

/-- A scoped DMA semaphore of the subcore is among its own. -/
theorem cell_mem (sm : DmaSem sig) (h : (SemLoc.dma sm : SemLoc sig).isScoped .scVector = true) :
    cell d i sm ∈ ownCells (thr d i) := mem_ownCells.mpr ⟨rfl, h⟩

/-- Different semaphores are different cells, -/
theorem cell_ne {a b : DmaSem sig} (h : a ≠ b) : cell d i a ≠ cell d i b :=
  fun e => h (SemLoc.dma.inj (Prod.mk.inj e).2)

/-- and different scratches are different buffers. -/
theorem scr_ne {a b : Ref sig .scVector} (h : a ≠ b) : scr i a ≠ scr i b := fun e => h (Proc.devRef_injective _ e)

/-- The five semaphores the task uses, out of all the subcore's. -/
theorem ownSems0_V :
    (ownSems0 (thr d i) : sProp 𝕄)
      = iprop(semVal (cell d i (semM 0)) 0 ∗ semVal (cell d i (semM 1)) 0 ∗ semVal (cell d i (semM 2)) 0
          ∗ semVal (cell d i cc0_scoped0.sem) 0 ∗ semVal (cell d i cc0_scoped1.sem) 0
          ∗ bigSep ((((((ownCells (thr d i)).erase (cell d i (semM 0))).erase (cell d i (semM 1))).erase (cell d i (semM 2))).erase
              (cell d i cc0_scoped0.sem)).erase (cell d i cc0_scoped1.sem)) fun g => semVal g 0) := by
  unfold SparseCore.Cfg.ownSems0
  have m0 := cell_mem d i (semM 0) (by decide)
  have m1 := Finset.mem_erase.mpr ⟨cell_ne d i (show semM 1 ≠ semM 0 by decide), cell_mem d i (semM 1) (by decide)⟩
  have m2 := Finset.mem_erase.mpr ⟨cell_ne d i (show semM 2 ≠ semM 1 by decide),
    Finset.mem_erase.mpr ⟨cell_ne d i (show semM 2 ≠ semM 0 by decide), cell_mem d i (semM 2) (by decide)⟩⟩
  have m3 := Finset.mem_erase.mpr ⟨cell_ne d i (show cc0_scoped0.sem ≠ semM 2 by decide),
    Finset.mem_erase.mpr ⟨cell_ne d i (show cc0_scoped0.sem ≠ semM 1 by decide),
    Finset.mem_erase.mpr ⟨cell_ne d i (show cc0_scoped0.sem ≠ semM 0 by decide), cell_mem d i cc0_scoped0.sem (by decide)⟩⟩⟩
  have m4 := Finset.mem_erase.mpr ⟨cell_ne d i (show cc0_scoped1.sem ≠ cc0_scoped0.sem by decide),
    Finset.mem_erase.mpr ⟨cell_ne d i (show cc0_scoped1.sem ≠ semM 2 by decide),
    Finset.mem_erase.mpr ⟨cell_ne d i (show cc0_scoped1.sem ≠ semM 1 by decide),
    Finset.mem_erase.mpr ⟨cell_ne d i (show cc0_scoped1.sem ≠ semM 0 by decide), cell_mem d i cc0_scoped1.sem (by decide)⟩⟩⟩⟩
  rw [SparseCore.bigSep_erase' m0, SparseCore.bigSep_erase' m1, SparseCore.bigSep_erase' m2, SparseCore.bigSep_erase' m3,
    SparseCore.bigSep_erase' m4]

/-- The five scratches the task uses, at some contents, out of all the subcore's. -/
theorem ownBufs_V :
    (ownBufs (thr d i) : sProp 𝕄)
      = iprop((∃ f, ((thr d i).loc cc0_scratch0) ↦{fullShare} f) ∗ (∃ f, ((thr d i).loc cc0_scratch1) ↦{fullShare} f)
          ∗ (∃ f, ((thr d i).loc cc0_scratch2) ↦{fullShare} f) ∗ (∃ f, ((thr d i).loc cc0_scratch3) ↦{fullShare} f)
          ∗ (∃ f, ((thr d i).loc cc0_scratch4) ↦{fullShare} f)
          ∗ bigSep ((((((ownRefs (τ := τ) (thr d i).2).erase (scr i cc0_scratch0)).erase (scr i cc0_scratch1)).erase
              (scr i cc0_scratch2)).erase (scr i cc0_scratch3)).erase (scr i cc0_scratch4))
              fun b => iprop(∃ f, ((d, b) : Loc nD τ sig) ↦{fullShare} f)) := by
  unfold SparseCore.Cfg.ownBufs
  have mem (b : Ref sig .scVector) (h : (scr i b).owner = .proc (thr d i).2) : scr i b ∈ ownRefs (τ := τ) (thr d i).2 :=
    SparseCore.Cfg.mem_ownRefs_of_owner (p := (thr d i).2) (b := scr i b) h
  have m1 := Finset.mem_erase.mpr ⟨scr_ne i (show cc0_scratch1 ≠ cc0_scratch0 by decide), mem cc0_scratch1 rfl⟩
  have m2 := Finset.mem_erase.mpr ⟨scr_ne i (show cc0_scratch2 ≠ cc0_scratch1 by decide),
    Finset.mem_erase.mpr ⟨scr_ne i (show cc0_scratch2 ≠ cc0_scratch0 by decide), mem cc0_scratch2 rfl⟩⟩
  have m3 := Finset.mem_erase.mpr ⟨scr_ne i (show cc0_scratch3 ≠ cc0_scratch2 by decide),
    Finset.mem_erase.mpr ⟨scr_ne i (show cc0_scratch3 ≠ cc0_scratch1 by decide),
    Finset.mem_erase.mpr ⟨scr_ne i (show cc0_scratch3 ≠ cc0_scratch0 by decide), mem cc0_scratch3 rfl⟩⟩⟩
  have m4 := Finset.mem_erase.mpr ⟨scr_ne i (show cc0_scratch4 ≠ cc0_scratch3 by decide),
    Finset.mem_erase.mpr ⟨scr_ne i (show cc0_scratch4 ≠ cc0_scratch2 by decide),
    Finset.mem_erase.mpr ⟨scr_ne i (show cc0_scratch4 ≠ cc0_scratch1 by decide),
    Finset.mem_erase.mpr ⟨scr_ne i (show cc0_scratch4 ≠ cc0_scratch0 by decide), mem cc0_scratch4 rfl⟩⟩⟩⟩
  refine (SparseCore.bigSep_erase' (mem cc0_scratch0 rfl)).trans ?_
  rw [SparseCore.bigSep_erase' m1, SparseCore.bigSep_erase' m2, SparseCore.bigSep_erase' m3, SparseCore.bigSep_erase' m4]

/-! ## The task -/

/-- The task's labels, in the array of all of them, at `y`. -/
def labPts (y : Buf (Elt F) ((thr d i).loc main_arg1_scv)) : sProp 𝕄 :=
  (ySl i).view.loc (thr d i) ↦[(ySl i).view.set]{fullShare} y

/-- The task's part of the result, at `o`. -/
def outPts (o : Buf (Elt F) ((thr d i).loc main_v0_scv)) : sProp 𝕄 :=
  (oSl i).view.loc (thr d i) ↦[(oSl i).view.set]{fullShare} o

/-- What the task reads of its labels, and the values it selects, are the result's part. -/
theorem picked_gold (y : Buf (Elt F) ((thr d i).loc main_arg1_scv)) (j : S512.Idx) :
    picked i X ((ySl i).view.read (Elt F) y) j = oM.view.read (Elt F) (gold X y)
      ((Rect.unit (s := S16384) (k0_off18 i) S512.size (k0_off18_inb i)).emb j) := by
  show X (at2 _ _) = X (at2 _ _)
  have hj : (Rect.unit (s := S16384) (k0_off18 i) S512.size (k0_off18_inb i)).emb j
      = (Rect.unit (s := S16384) (k0_off1 i) S512.size (k0_off1_inb i)).emb j := by
    funext a; apply Fin.ext; rfl
  refine congrArg X (funext fun a => ?_)
  match a with
  | 0 =>
    apply Fin.ext
    show 1024 * (i 1).val + 512 * (i 0).val + (j 0).val = (k0_off18 i) 0 + 1 * (j 0).val
    rw [k0_off18_eq]
    show _ = 1024 * (i 1).val + 512 * (i 0).val + 1 * (j 0).val
    omega
  | 1 =>
    apply Fin.ext
    show (show BitVec 32 from y _).toNat % 1000 = (show BitVec 32 from y _).toNat % 1000
    rw [hj]; rfl

/-- From the first on all windows are left; -/
theorem winsFrom_zero : winsFrom 0 = Finset.univ := Finset.filter_true_of_mem fun _ _ => Nat.zero_le _
/-- before the sixteenth all are done -/
theorem winsTo_all : winsTo 16 = Finset.univ := Finset.filter_true_of_mem fun w _ => w.isLt
/-- and before the first none. -/
theorem winsTo_zero : winsTo 0 = ∅ := Finset.filter_eq_empty_iff.mpr fun _ _ => Nat.not_lt_zero _

/-- All the windows are the first three and the rest. -/
theorem wins_split : bigSep Finset.univ (winPts (F := F) d i X)
    = iprop(winPts d i X ⟨0, by decide⟩ ∗ winPts d i X ⟨1, by decide⟩ ∗ winPts d i X ⟨2, by decide⟩ ∗ bigSep (winsFrom 3) (winPts d i X)) := by
  rw [← winsFrom_zero, (winsFrom_step 0 (by decide)).1, SparseCore.bigSep_insert' (winsFrom_step 0 (by decide)).2,
    (winsFrom_step 1 (by decide)).1, SparseCore.bigSep_insert' (winsFrom_step 1 (by decide)).2,
    (winsFrom_step 2 (by decide)).1, SparseCore.bigSep_insert' (winsFrom_step 2 (by decide)).2]

/-- A buffer of the ring at some contents is some contents of the scratch it is. -/
theorem owns_scratch (b : Ref sig .scVector) :
    (iprop(∃ G, owns (thr d i) (Memref.whole b) fullShare G) : sProp 𝕄)
      = iprop(∃ f : Buf (Elt F) ((thr d i).loc b), ((thr d i).loc b) ↦{fullShare} f) := by
  congr 1; funext G; exact owns_whole (thr d i) b fullShare G

/-- The task: from its sixteen windows, its labels and its part of the result, that part at the values the labels
    name, the rest unchanged. -/
theorem tile_body (hF : (K (F := F)).Facts) (y : Buf (Elt F) ((thr d i).loc main_arg1_scv))
    (o : Buf (Elt F) ((thr d i).loc main_v0_scv)) (hpre : ∀ j : S16384.Idx, (show BitVec 32 from y j).toNat < 1000)
    (hO : ∀ g, O g none = 0) :
    iprop(levAts (K (F := F)).L (K (F := F)).lev ∗ emp
        ∗ (bigSep Finset.univ (winPts d i X) ∗ labPts d i y ∗ outPts d i o)
        ∗ scopedBufs (thr d i) ∗ scopedSems0 (thr d i) ∗ owes (thr d i) O W)
      ⊢ wp frame (wpE (defs₀ (F := F)) 𝒱₀ (thr d i) none) Set.univ (kernelAt i)
          fun _ => iprop((bigSep Finset.univ (winPts d i X) ∗ labPts d i y ∗ outPts d i (gold X y))
            ∗ scopedBufs (thr d i) ∗ scopedSems0 (thr d i)
            ∗ ∃ W', ⌜∀ p ∈ W', p ∈ W ∨ p.2 = none⌝ ∗ owes (thr d i) O W') := by
  rw [kernel_eq, wins_split, (K (F := F)).scopedBufs_V hF, SparseCore.Cfg.scopedSems0_V (Val := Elt F), ownSems0_V, ownBufs_V,
    ← owns_scratch d i cc0_scratch0, ← owns_scratch d i cc0_scratch1, ← owns_scratch d i cc0_scratch2,
    ← owns_scratch d i cc0_scratch3]
  unfold task labelsThen
  iintro ⟨#Hlv, -, ⟨⟨Hx0, Hx1, Hx2, Hxs⟩, Hl, Ho⟩, ⟨Hy, Hb0, Hb1, Hb2, ⟨%fv, Hv⟩, Hbufs⟩, ⟨Hs0, Hs1, Hs2, Hsy, Hso, Hsems⟩, HO⟩
  ihave HO' := (show owes (thr d i) O W ⊢ (owed d i O W : sProp 𝕄) from by
    unfold owed; iintro H; iexists W; isplitr
    · ipureintro; exact fun p hp => .inl hp
    · iexact H) $$ HO
  -- the labels
  unfold labPts
  iapply (wp_copy d i (src := ySl i) (dst := yScr) (sem := cc0_scoped0.sem) (by decide) y) $$ [Hl Hy Hsy]
  · isplitl [Hl]; · iexact Hl
    isplitl [Hy]; · iexact Hy
    iexact Hsy
  iintro Hf
  iapply (wp_wait d i (W := W)) $$ [Hf HO']
  · isplitl [Hf]; · iexact Hf
    isplitl [HO']; · iexact HO'
    iapply ((K (F := F)).mayWaits_none (thr := thr d i) hO); iexact Hlv
  iintro ⟨⟨Hy, Hl⟩, Hsy, HO⟩
  ihave Hy' := (Entails.of_eq (owns_whole (thr d i) cc0_scratch0 fullShare _)) $$ Hy
  -- the first three windows
  iapply (wp_fetch d i X 0 _ _) $$ [Hx0 Hb0 Hs0]
  · unfold idle
    isplitl [Hx0]; · iexact Hx0
    isplitl [Hb0]; · iexact Hb0
    iexact Hs0
  iintro Hf0
  iapply (wp_fetch d i X 1 _ _) $$ [Hx1 Hb1 Hs1]
  · unfold idle
    isplitl [Hx1]; · iexact Hx1
    isplitl [Hb1]; · iexact Hb1
    iexact Hs1
  iintro Hf1
  iapply (wp_fetch d i X 2 _ _) $$ [Hx2 Hb2 Hs2]
  · unfold idle
    isplitl [Hx2]; · iexact Hx2
    isplitl [Hb2]; · iexact Hb2
    iexact Hs2
  iintro Hf2
  -- the ring
  iapply (wp_ring d i X ((ySl i).view.read (Elt F) y) O W hO (fun j => hpre _) _ 16 0 rfl) $$ [Hf0 Hf1 Hf2 Hxs Hy' Hv HO]
  · isplitr; · iexact Hlv
    unfold ring
    isplitl [Hf0]
    · rw [show pend d i X 0 = inFlight d i X 0 (by decide) from dif_pos _]; iexact Hf0
    isplitl [Hf1]
    · rw [show pend d i X (0 + 1) = inFlight d i X 1 (by decide) from dif_pos (by decide)]; iexact Hf1
    isplitl [Hf2]
    · rw [show pend d i X (0 + 2) = inFlight d i X 2 (by decide) from dif_pos (by decide)]; iexact Hf2
    isplitl [Hxs]; · iexact Hxs
    isplitr; · rw [winsTo_zero, bigSep_empty]; iempintro
    isplitl [Hy']; · iexact Hy'
    isplitl [Hv]
    · unfold vals; iexists fv; isplitr
      · ipureintro; exact fun j hj => absurd hj (Nat.not_lt_zero _)
      · iexact Hv
    iexact HO
  unfold ring
  iintro ⟨Hp1, Hp2, Hp0, -, Hx, Hy, Hvals, HO⟩
  rw [winsTo_all]
  ihave Hi1 := (Entails.of_eq (show pend d i X 16 = idle d i 1 from dif_neg (by decide))) $$ Hp1
  ihave Hi2 := (Entails.of_eq (show pend d i X (16 + 1) = idle d i 2 from dif_neg (by decide))) $$ Hp2
  ihave Hi0 := (Entails.of_eq (show pend d i X (16 + 2) = idle d i 0 from dif_neg (by decide))) $$ Hp0
  unfold idle vals
  icases Hi0 with ⟨Hb0, Hs0⟩
  icases Hi1 with ⟨Hb1, Hs1⟩
  icases Hi2 with ⟨Hb2, Hs2⟩
  icases Hvals with ⟨%f, %hf, Hv⟩
  -- the write-out
  unfold writeOut outPts
  iapply (wp_copy d i (src := vScr) (dst := oSl i) (sem := cc0_scoped1.sem) (by decide) f) $$ [Hv Ho Hso]
  · isplitl [Hv]
    · simp only [Memref.view_whole, View.set_whole]; iexact Hv
    isplitl [Ho]
    · iexists _; iapply (owns_intro (thr d i) (oSl i) fullShare o); iexact Ho
    iexact Hso
  iintro Hf
  iapply (wp_wait d i (W := W)) $$ [Hf HO]
  · isplitl [Hf]; · iexact Hf
    isplitl [HO]; · iexact HO
    iapply ((K (F := F)).mayWaits_none (thr := thr d i) hO); iexact Hlv
  iintro ⟨⟨Ho, Hv⟩, Hso, HO⟩
  have hval : vScr.view.read (Elt F) f = fun j => oM.view.read (Elt F) (gold X y)
      ((Rect.unit (s := S16384) (k0_off18 i) S512.size (k0_off18_inb i)).emb j) :=
    funext fun j => (hf j (j 0).isLt).trans (picked_gold d i X y j)
  rw [hval]
  ihave Ho' := (Entails.of_eq (owns_slice_read (thr d i) oM fullShare
    (Rect.unit (s := S16384) (k0_off18 i) S512.size (k0_off18_inb i)) (fun _ => rfl) (gold X y))) $$ Ho
  rw [wp_ret]; imodintro
  isplitl [Hx Hl Ho']
  · isplitl [Hx]; · rw [← wins_split]; iexact Hx
    isplitl [Hl]; · iexact Hl
    iexact Ho'
  isplitl [Hy Hb0 Hb1 Hb2 Hv Hbufs]
  · isplitl [Hy]
    · rw [owns_scratch]; iexists _; iexact Hy
    isplitl [Hb0]; · iexact Hb0
    isplitl [Hb1]; · iexact Hb1
    isplitl [Hb2]; · iexact Hb2
    isplitl [Hv]
    · iexists f; simp only [Memref.view_whole, View.set_whole]; iexact Hv
    iexact Hbufs
  isplitl [Hs0 Hs1 Hs2 Hsy Hso Hsems]
  · isplitl [Hs0]; · iexact Hs0
    isplitl [Hs1]; · iexact Hs1
    isplitl [Hs2]; · iexact Hs2
    isplitl [Hsy]; · iexact Hsy
    isplitl [Hso]; · iexact Hso
    iexact Hsems
  unfold owed
  iexact HO

end Rules

end Cert.Proof.RowPick

end
-- ==== Proof.Launch.lean ====
/-
  The launch: the three arrays dealt to the thirty-two tasks and taken back (each task sixteen windows of the table,
  its labels and its part of the result, which together are the whole arrays), the launch theorem's obligations, and
  the program's run: it terminates, its arguments end unchanged, its result is `gold` of them, and every semaphore
  ends at zero.
-/
module

public import proofs.«01_k».proof.Proof.Tile

@[expose] public section

noncomputable section

namespace Cert.Proof.RowPick

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tasks' parts make up the arrays -/

/-- The grid point of SparseCore `c`, subcore `s`. -/
def coordsV (c : Fin 2) (s : Fin 16) : grid0.Coords :=
  fun | 0 => c | 1 => s | ⟨_ + 2, h⟩ => absurd h (Nat.not_lt.2 (Nat.le_add_left _ _))

/-- The elements of window `w` of task `(c, s)`. -/
abbrev winSet (t : Fin 2 × Fin 16 × Fin 16) : Finset S16384x1000.Idx := (xWin (coordsV t.1 t.2.1) t.2.2.val t.2.2.isLt).view.set
/-- The elements of the labels that are task `(c, s)`'s. -/
abbrev labSet (t : Fin 2 × Fin 16) : Finset S16384.Idx := (ySl (coordsV t.1 t.2)).view.set
/-- The elements of the result that are task `(c, s)`'s. -/
abbrev outSet (t : Fin 2 × Fin 16) : Finset S16384.Idx := (oSl (coordsV t.1 t.2)).view.set

/-- A window is thirty-two consecutive rows of the table, all columns. -/
theorem mem_winSet (t : Fin 2 × Fin 16 × Fin 16) (j : S16384x1000.Idx) :
    j ∈ winSet t ↔ 1024 * t.2.1.val + 512 * t.1.val + 32 * t.2.2.val ≤ (j 0).val
      ∧ (j 0).val < 1024 * t.2.1.val + 512 * t.1.val + 32 * t.2.2.val + 32 := by
  have e : winSet t = (xRect (coordsV t.1 t.2.1) t.2.2.val t.2.2.isLt).set := by
    show ((View.whole (main_arg0_scv : Ref sig .scVector)).slice _).set = _
    rw [View.set_slice]; exact Finset.map_refl
  rw [e, Rect.mem_set_unit, xoff_eq (coordsV t.1 t.2.1) t.2.2]
  constructor
  · intro h; exact h 0
  · intro h a
    match a with
    | 0 => exact h
    | 1 => exact ⟨Nat.zero_le _, (show 0 + 1000 = 1000 from rfl) ▸ (j 1).isLt⟩

/-- A task's labels are 512 consecutive ones. -/
theorem mem_labSet (t : Fin 2 × Fin 16) (j : S16384.Idx) :
    j ∈ labSet t ↔ 1024 * t.2.val + 512 * t.1.val ≤ (j 0).val ∧ (j 0).val < 1024 * t.2.val + 512 * t.1.val + 512 := by
  have e : labSet t = (Rect.unit (s := S16384) (k0_off1 (coordsV t.1 t.2)) S512.size (k0_off1_inb _)).set := by
    show ((View.whole (main_arg1_scv : Ref sig .scVector)).slice _).set = _
    rw [View.set_slice]; exact Finset.map_refl
  rw [e, Rect.mem_set_unit, k0_off1_eq]
  constructor
  · intro h; exact h 0
  · intro h a
    match a with
    | 0 => exact h

/-- A task's part of the result is the same 512 consecutive elements. -/
theorem mem_outSet (t : Fin 2 × Fin 16) (j : S16384.Idx) :
    j ∈ outSet t ↔ 1024 * t.2.val + 512 * t.1.val ≤ (j 0).val ∧ (j 0).val < 1024 * t.2.val + 512 * t.1.val + 512 := by
  have e : outSet t = (Rect.unit (s := S16384) (k0_off18 (coordsV t.1 t.2)) S512.size (k0_off18_inb _)).set := by
    show ((View.whole (main_v0_scv : Ref sig .scVector)).slice _).set = _
    rw [View.set_slice]; exact Finset.map_refl
  rw [e, Rect.mem_set_unit, k0_off18_eq]
  constructor
  · intro h; exact h 0
  · intro h a
    match a with
    | 0 => exact h

/-- No two windows, of one task or of two, share an element, -/
theorem win_disjoint : ∀ t ∈ (Finset.univ : Finset (Fin 2 × Fin 16 × Fin 16)), ∀ t' ∈ (Finset.univ : Finset (Fin 2 × Fin 16 × Fin 16)),
    t ≠ t' → Disjoint (winSet t) (winSet t') := by
  intro t _ t' _ hne
  refine Finset.disjoint_left.mpr fun j h h' => hne ?_
  rw [mem_winSet] at h h'
  obtain ⟨c, s, w⟩ := t
  obtain ⟨c', s', w'⟩ := t'
  have := c.isLt; have := s.isLt; have := w.isLt; have := c'.isLt; have := s'.isLt; have := w'.isLt
  simp only at h h'
  exact Prod.ext (Fin.ext (by simp only; omega)) (Prod.ext (Fin.ext (by simp only; omega)) (Fin.ext (by simp only; omega)))

/-- and together they are the table. -/
theorem win_cover : (Finset.univ : Finset (Fin 2 × Fin 16 × Fin 16)).biUnion winSet = Finset.univ := by
  refine Finset.eq_univ_iff_forall.mpr fun j => Finset.mem_biUnion.mpr ?_
  have h : (j 0).val < 16384 := (j 0).isLt
  refine ⟨(⟨(j 0).val / 512 % 2, by omega⟩, ⟨(j 0).val / 1024, by omega⟩, ⟨(j 0).val / 32 % 16, by omega⟩), Finset.mem_univ _, ?_⟩
  rw [mem_winSet]
  simp only
  omega

/-- Parts of 512 consecutive elements, one for each task, share none, -/
theorem lanes_disjoint {A : Fin 2 × Fin 16 → Finset S16384.Idx}
    (hA : ∀ t j, j ∈ A t ↔ 1024 * t.2.val + 512 * t.1.val ≤ (j 0).val ∧ (j 0).val < 1024 * t.2.val + 512 * t.1.val + 512) :
    ∀ t ∈ (Finset.univ : Finset (Fin 2 × Fin 16)), ∀ t' ∈ (Finset.univ : Finset (Fin 2 × Fin 16)), t ≠ t' → Disjoint (A t) (A t') := by
  intro t _ t' _ hne
  refine Finset.disjoint_left.mpr fun j h h' => hne ?_
  rw [hA] at h h'
  obtain ⟨c, s⟩ := t
  obtain ⟨c', s'⟩ := t'
  have := c.isLt; have := s.isLt; have := c'.isLt; have := s'.isLt
  simp only at h h'
  exact Prod.ext (Fin.ext (by simp only; omega)) (Fin.ext (by simp only; omega))

/-- and together they are all the elements. -/
theorem lanes_cover {A : Fin 2 × Fin 16 → Finset S16384.Idx}
    (hA : ∀ t j, j ∈ A t ↔ 1024 * t.2.val + 512 * t.1.val ≤ (j 0).val ∧ (j 0).val < 1024 * t.2.val + 512 * t.1.val + 512) :
    (Finset.univ : Finset (Fin 2 × Fin 16)).biUnion A = Finset.univ := by
  refine Finset.eq_univ_iff_forall.mpr fun j => Finset.mem_biUnion.mpr ?_
  have h : (j 0).val < 16384 := (j 0).isLt
  refine ⟨(⟨(j 0).val / 512 % 2, by omega⟩, ⟨(j 0).val / 1024, by omega⟩), Finset.mem_univ _, ?_⟩
  rw [hA]
  simp only
  omega

/-- The table is its windows, task by task. -/
theorem x_deal (d : Dev nD) (f : Buf (Elt F) (xLoc d)) :
    (xLoc d ↦{fullShare} f : sProp 𝕄)
      = bigSep Finset.univ fun c : Fin 2 => bigSep Finset.univ fun s : Fin 16 => bigSep Finset.univ (winPts d (coordsV c s) f) := by
  have h : (xLoc d ↦{fullShare} f : sProp 𝕄) = bigSep Finset.univ fun t : Fin 2 × Fin 16 × Fin 16 => xLoc d ↦[winSet t]{fullShare} f := by
    rw [← pointsTo_biUnion Finset.univ (ℓ := xLoc d) winSet win_disjoint, win_cover]; try rfl
  rw [h, bigSep_univ_prod]
  exact bigSep_congr fun c _ => bigSep_univ_prod _

/-- The labels are the tasks' labels. -/
theorem y_deal (d : Dev nD) (f : Buf (Elt F) (yLoc d)) :
    (yLoc d ↦{fullShare} f : sProp 𝕄)
      = bigSep Finset.univ fun c : Fin 2 => bigSep Finset.univ fun s : Fin 16 => labPts d (coordsV c s) f := by
  have h : (yLoc d ↦{fullShare} f : sProp 𝕄) = bigSep Finset.univ fun t : Fin 2 × Fin 16 => yLoc d ↦[labSet t]{fullShare} f := by
    rw [← pointsTo_biUnion Finset.univ (ℓ := yLoc d) labSet (lanes_disjoint mem_labSet), lanes_cover mem_labSet]; try rfl
  rw [h, bigSep_univ_prod]
  rfl

/-- The result is the tasks' parts of it. -/
theorem o_deal (d : Dev nD) (f : Buf (Elt F) (oLoc d)) :
    (oLoc d ↦{fullShare} f : sProp 𝕄)
      = bigSep Finset.univ fun c : Fin 2 => bigSep Finset.univ fun s : Fin 16 => outPts d (coordsV c s) f := by
  have h : (oLoc d ↦{fullShare} f : sProp 𝕄) = bigSep Finset.univ fun t : Fin 2 × Fin 16 => oLoc d ↦[outSet t]{fullShare} f := by
    rw [← pointsTo_biUnion Finset.univ (ℓ := oLoc d) outSet (lanes_disjoint mem_outSet), lanes_cover mem_outSet]; try rfl
  rw [h, bigSep_univ_prod]
  rfl

/-! ## What the handshakes carry -/

variable (m : (ℓ : Loc nD τ sig) → Buf (Elt F) ℓ) (ρ : Dev nD → PrngReg)

/-- The value the launch leaves in the result. -/
abbrev goldOf (d : Dev nD) : Buf (Elt F) (oLoc d) := gold (F := F) (m (xLoc d)) (m (yLoc d))

/-- A task's parts of the arrays, the result's at `o`. -/
def taskPts (d : Dev nD) (i : grid0.Coords) (o : Buf (Elt F) (oLoc d)) : sProp 𝕄 :=
  iprop(bigSep Finset.univ (winPts d i (m (xLoc d))) ∗ labPts d i (m (yLoc d)) ∗ outPts d i o)

/-- A SparseCore's tasks' parts. -/
def corePts (d : Dev nD) (c : Fin 2) (o : Buf (Elt F) (oLoc d)) : sProp 𝕄 :=
  bigSep Finset.univ fun s : Fin 16 => taskPts m d (coordsV c s) o

/-- What the handshakes carry may be put into an invariant: windows, -/
instance winPts_storable (d : Dev nD) (i : grid0.Coords) (f : Buf (Elt F) (xLoc d)) (w : Fin 16) :
    BI.Storable (upEmb : UEmb _ 𝕄) (winPts d i f w) := by unfold winPts; infer_instance
/-- labels, -/
instance labPts_storable (d : Dev nD) (i : grid0.Coords) (f : Buf (Elt F) (yLoc d)) :
    BI.Storable (upEmb : UEmb _ 𝕄) (labPts d i f) := by unfold labPts; infer_instance
/-- parts of the result, -/
instance outPts_storable (d : Dev nD) (i : grid0.Coords) (f : Buf (Elt F) (oLoc d)) :
    BI.Storable (upEmb : UEmb _ 𝕄) (outPts d i f) := by unfold outPts; infer_instance
/-- a task's parts, -/
instance taskPts_storable (d : Dev nD) (i : grid0.Coords) (o : Buf (Elt F) (oLoc d)) :
    BI.Storable (upEmb : UEmb _ 𝕄) (taskPts m d i o) := by unfold taskPts; infer_instance
/-- and a SparseCore's. -/
instance corePts_storable (d : Dev nD) (c : Fin 2) (o : Buf (Elt F) (oLoc d)) :
    BI.Storable (upEmb : UEmb _ 𝕄) (corePts m d c o) := by unfold corePts; infer_instance

/-- The one call hands each SparseCore its tasks' parts of the arrays and each task its own, the result's at what it
    held; they come back with the result's at `gold`. -/
def P : (K (F := F)).Pay (nD := nD) (Val := Elt F) (Name := ℕ) (U := UU) where
  st := fun q d c => match q with | 0 => corePts m d c (m (oLoc d))
  dn := fun q d c => match q with | 0 => corePts m d c (goldOf m d)
  go := fun q d c i => match q with | 0 => taskPts m d (coordsV c i) (m (oLoc d))
  td := fun q d c i => match q with | 0 => taskPts m d (coordsV c i) (goldOf m d)
  x := fun _ _ => iprop(emp)

/-- So may all that the call hands over. -/
instance P_storable : (P (F := F) m).IsStorable where
  st q d c := match q with | 0 => corePts_storable m d c (m (oLoc d))
  dn q d c := match q with | 0 => corePts_storable m d c (goldOf m d)
  go q d c i := match q with | 0 => taskPts_storable m d (coordsV c i) (m (oLoc d))
  td q d c i := match q with | 0 => taskPts_storable m d (coordsV c i) (goldOf m d)

/-! ## The launch theorem's obligations -/

/-- The call runs the kernel at each of its grid points. -/
theorem defs₀_vector (c : Fin τ.nSC) (s : Fin τ.nSub) :
    defs₀ (F := F) (.scVector c s) 0 () = SparseCore.onTile hcore0 hsub0 (fun c s => kernelAt (F := F) (coordsV c s)) ⟨⟩ c s := rfl

/-- A task's wait record, as the launch theorem asks for it: it may also hold waits of the call's own (`own`). -/
theorem obl_post {thr : Thread nD τ} {A B C : sProp 𝕄} {O : CellTallies nD τ sig (HIx 1)} {W : Waits sig (HIx 1)} {own : HIx 1 → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ own p.2⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 8000 in
/-- Every task of the call runs as `tile_body` says. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body d (coordsV ⟨_, hc.1⟩ ⟨_, hc.2⟩) (m (xLoc d)) O W hF (m (yLoc d)) (m (oLoc d)) (hpre d) hO
  exact h.trans (wp_mono frame _ _ fun _ => obl_post)

/-- What a SparseCore is handed is what its tasks are. -/
theorem vecSplit : (K (F := F)).VecSplit' (P m) 0 := by
  intro d c
  show corePts m d c (m (oLoc d)) ⊢ |={Set.univ}=> iprop(corePts m d c (m (oLoc d)) ∗ (corePts m d c (goldOf m d) -∗ corePts m d c (goldOf m d)))
  iintro H; imodintro
  isplitl [H]; · iexact H
  iintro H; iexact H

/-- The launch's ghost state: the handshakes' rounds. -/
def u₀ : UU := (initOf (K (F := F)).hsCells (K (F := F)).hsToks, 1)

/-- Nothing, however many times. -/
theorem bigSep_emp' {I : Type} (s : Finset I) : (bigSep s fun _ => iprop(emp)) = (iprop(emp) : sProp 𝕄) := bigSep_emp_const s

/-- The launch's ghost state is the handshakes' rounds; the tasks need none of their own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The TensorCore's program -/

/-- The arrays that live as long as the program are the three: table, labels, result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (yLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- The arrays, whole, the result at `o`. -/
abbrev arrays (d : Dev nD) (o : Buf (Elt F) (oLoc d)) : sProp 𝕄 :=
  iprop((xLoc d ↦{fullShare} m (xLoc d)) ∗ (yLoc d ↦{fullShare} m (yLoc d)) ∗ oLoc d ↦{fullShare} o)

/-- The arrays are the SparseCores' tasks' parts. -/
theorem arrays_deal (d : Dev nD) (o : Buf (Elt F) (oLoc d)) : arrays m d o = bigSep Finset.univ fun c : Fin 2 => corePts m d c o := by
  unfold arrays corePts taskPts
  rw [x_deal, y_deal, o_deal]
  simp only [bigSep_sep']

/-- What the call hands over is the three arrays, -/
theorem st0_eq (d : Dev nD) : (bigSep Finset.univ fun c : Fin ((K (F := F)).nCore 0) => (P m).st 0 d c) = arrays m d (m (oLoc d)) :=
  (arrays_deal m d _).symm
/-- and what it hands back is the three arrays, the result at `gold`. -/
theorem dn0_eq (d : Dev nD) : (bigSep Finset.univ fun c : Fin ((K (F := F)).nCore 0) => (P m).dn 0 d c) = arrays m d (goldOf m d) :=
  (arrays_deal m d _).symm

/-- The program on device `d`'s TensorCore: the one call, from the three arrays; it keeps them, the result at `gold`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (goldOf m d) ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]; · rw [st0_eq]; iexact Harr
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What holds of the final memory on device `d`. -/
def fq (d : Dev nD) (s' : Phys nD τ sig (Elt F)) : Prop :=
  s'.mem.mem (xLoc d) = m (xLoc d) ∧ s'.mem.mem (yLoc d) = m (yLoc d) ∧ s'.mem.mem (oLoc d) = goldOf m d

/-- Arrays held at the end say what the final memory holds. -/
theorem hfin (d : Dev nD) (s' : Phys nD τ sig (Elt F)) : iprop(arrays m d (goldOf m d) ∗ SI s') ⊢ (⌜fq m d s'⌝ : sProp 𝕄) := by
  iintro ⟨⟨Hx, Hy, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := yLoc d) (I := Finset.univ) (q := fullShare) (f := m (yLoc d)))) $$ [HSI Hy]
  · isplitl [HSI] <;> iassumption
  icases H with ⟨%h2, HSI, -⟩
  ihave H := (SI_pointsTo_agree (st := s') (ℓ := oLoc d) (I := Finset.univ) (q := fullShare) (f := goldOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The run's end: the arguments unchanged, the result `gold` of them, every semaphore at zero. -/
def QC : PUnit × MemSt nD τ sig (Elt F) → Prop := fun r =>
  (∀ d : Dev nD, r.2.mem (xLoc d) = m (xLoc d) ∧ r.2.mem (yLoc d) = m (yLoc d) ∧ r.2.mem (oLoc d) = goldOf m d) ∧ r.2.sem = fun _ => 0

/-- From labels below a thousand, the program runs to that end, at any float values. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => arrays m d (goldOf m d)) (u₀ (F := F)) (sep_elim_left.trans (hu₀ m)) (hmain m ρ) (fq m) (hfin m)
    (QC m) (fun _ h hz => ⟨h, hz⟩)

end Cert.Proof.RowPick

end
-- ==== Proof.Value.lean ====
/-
  What the reference computes: from labels below a thousand, its element `j` is the table's at row `j` and column
  `y j`, which is `gold` (Setup.lean). And what the precondition says: every label is below a thousand.
-/
module

public import proofs.«01_k».proof.Proof.Setup
public import proofs.«01_k».proof.Proof.Gen.ReferenceIdeal.Run
public import proofs.«01_k».proof.Proof.Gen.Pre_labels
public import Idealize.ShloMosaic.Lib.ReduceAll
public import Idealize.ShloMosaic.Lib.ValueIdx
public import Idealize.ShloMosaic.Lib.Pipeline.Value

@[expose] public section

noncomputable section

namespace Cert.Proof.RowPick.Ref

open Idealize.ShloMosaic Idealize.SL.Sem
open Cert.ReferenceIdeal Cert.ReferenceIdeal.Gen Cert.ReferenceIdeal.Facts

variable {F : FTy → Type} [FloatOps F]

/-! ## Words -/

/-- A Boolean as a one-bit word is one where it is true. -/
theorem ofBool_eq_one (p : Bool) : (BitVec.ofBool p = 1#1) ↔ p = true := by cases p <;> decide

/-- The conjunction of two one-bit words is one where both are. -/
theorem andi_eq_one (a b : BitVec 1) : IntOp.andi a b = 1#1 ↔ a = 1#1 ∧ b = 1#1 := by revert a b; decide

/-- The two comparisons of the precondition, both true, bound the word. -/
theorem lt_of_cmps (v : BitVec 32) (h : IntOp.andi (IntOp.cmpi .sge v 0#32) (IntOp.cmpi .slt v 1000#32) = 1#1) : v.toNat < 1000 := by
  obtain ⟨h1, h2⟩ := (andi_eq_one _ _).mp h
  simp only [IntOp.cmpi, ofBool_eq_one, BitVec.sle_eq_decide, BitVec.slt_eq_decide, decide_eq_true_eq,
    BitVec.toInt_eq_toNat_cond, BitVec.toNat_ofNat, Nat.reducePow, Nat.reduceMod] at h1 h2
  omega

/-- A word below a thousand is its own value as a signed word, -/
theorem toInt_small (v : BitVec 32) (h : v.toNat < 1000) : v.toInt = v.toNat := by
  rw [BitVec.toInt_eq_toNat_cond, if_pos (by omega)]

/-- is not negative, -/
theorem not_neg (v : BitVec 32) (h : v.toNat < 1000) : ¬ IntOp.cmpi .slt v 0#32 = 1#1 := by
  simp only [IntOp.cmpi, ofBool_eq_one, BitVec.slt_eq_decide, decide_eq_true_eq, toInt_small v h]
  simp

/-- and passes the reference's range check. -/
theorem in_range (v : BitVec 32) (h : v.toNat < 1000) : IntOp.andi (IntOp.cmpi .sge v 0#32) (IntOp.cmpi .sle v 999#32) = 1#1 := by
  refine (andi_eq_one _ _).mpr ⟨?_, ?_⟩
  · simp only [IntOp.cmpi, ofBool_eq_one, BitVec.sle_eq_decide, decide_eq_true_eq, toInt_small v h]
    simp
  · simp only [IntOp.cmpi, ofBool_eq_one, BitVec.sle_eq_decide, decide_eq_true_eq, toInt_small v h]
    rw [toInt_small _ (by decide)]
    simp only [BitVec.toNat_ofNat, Nat.reducePow, Nat.reduceMod]
    omega

/-! ## The precondition -/

/-- The precondition, all ones, says that every label is below a thousand. -/
theorem labels_lt (x : FVec F S16384x1000 .f32) (y : IVec S16384 32)
    (h : Cert.Pre_labels.fn x y = fun _ => 1#1) (j : S16384.Idx) : (y j).toNat < 1000 := by
  haveI : Subsingleton Cert.Pre_labels.S_.Idx := ⟨fun a b => funext fun k => k.elim0⟩
  exact lt_of_cmps (y j) (Host.reduce_andi_all _ _ _ _ (fun k => k.elim0) (congrFun h _) j)

/-! ## The reference's chain of operations -/

/-- The column indices that the reference gathers at: a negative label counts from the end. -/
def wrapped (y : IVec S16384 32) : IVec S16384x1x1 32 :=
  shapeCast _ (select (cmpi .slt (broadcastInDim S16384x1 ![0] bcast_S16384_S16384x1_0 y) (broadcastInDim S16384x1 ![] bcast_S_S16384x1 (constantI S_ 32 0#32)))
    (addi (broadcastInDim S16384x1 ![0] bcast_S16384_S16384x1_0 y) (broadcastInDim S16384x1 ![] bcast_S_S16384x1 (constantI S_ 32 1000#32)))
    (broadcastInDim S16384x1 ![0] bcast_S16384_S16384x1_0 y)) shapeCasts_S16384x1_S16384x1x1

/-- The reference's result, as its run states it: the gathered elements where the index is in range. -/
def rows (x : FVec F S16384x1000 .f32) (y : IVec S16384 32) : FVec F S16384 .f32 :=
  shapeCast _ (select (Host.reduce IntOp.andi (andi (cmpi .sge (wrapped y) (broadcastInDim S16384x1x1 ![] bcast_S_S16384x1x1 (constantI S_ 32 0#32)))
      (cmpi .sle (wrapped y) (broadcastInDim S16384x1x1 ![0, 1, 2] bcast_S1x1x1_S16384x1x1_0_1_2 (broadcastInDim S1x1x1 ![2] bcast_S1_S1x1x1_2 (constantI S1 32 999#32)))))
      (constantI S_ 1 1#1) reducesTo_S16384x1x1_S16384x1_d2 h_S_)
    (Host.gather gather_S16384x1000_S16384x1x1_S16384x1_n_1_0_0_1_2_11 x (wrapped y))
    (broadcastInDim S16384x1 ![] bcast_S_S16384x1 (constant S_ .f32 0x7FC00000#32))) shapeCasts_S16384x1_S16384

/-- A selection reads its first operand where its condition holds. -/
theorem select_one {α : Type} {s : Shape} (c : IVec s 1) (a b : s.Idx → α) (i : s.Idx) (h : c i = 1#1) : select c a b i = a i := if_pos h

/-- From labels below a thousand the column index of row `i` is its label. -/
theorem wrapped_apply (y : IVec S16384 32) (hy : ∀ j, (y j).toNat < 1000) (i : S16384x1x1.Idx) (j : S16384.Idx) (hj : (j 0).val = (i 0).val) :
    wrapped y i = y j := by
  have h1 : (i 1).val = 0 := Nat.lt_one_iff.mp (i 1).isLt
  have h2 : (i 2).val = 0 := Nat.lt_one_iff.mp (i 2).isLt
  unfold wrapped
  refine (shapeCast_apply (s := S16384x1) _ _ i (ValueIdx.ix2 (i 0) (i 1)) (by
    rw [Shape.rowMajor_val_two, Shape.rowMajor_val_three]
    show (i 0).val * 1 + (i 1).val = ((i 0).val * 1 + (i 1).val) * 1 + (i 2).val
    omega)).trans ?_
  have hb : broadcastInDim S16384x1 ![0] bcast_S16384_S16384x1_0 y (ValueIdx.ix2 (i 0) (i 1)) = y j := by
    refine congrArg y (funext fun a => Fin.ext ?_)
    match a with
    | 0 => exact hj.symm
  show Scalar.select (IntOp.cmpi .slt (broadcastInDim S16384x1 ![0] bcast_S16384_S16384x1_0 y (ValueIdx.ix2 (i 0) (i 1))) 0#32) _ _ = _
  rw [hb]
  exact if_neg (not_neg _ (hy j))

/-- Where the gather reads: on the table's row axis the result's own row, -/
theorem operandIdx_row (idx : IVec S16384x1x1 32) (k : S16384x1.Idx) :
    (gather_S16384x1000_S16384x1x1_S16384x1_n_1_0_0_1_2_11.operandIdx k idx 0).val = (k 0).val := by
  show GatherDims.start _ k idx 0 + GatherDims.batchCoord _ k 0 + GatherDims.offCoord _ k 0 = _
  rw [GatherDims.start_batching _ k idx 0 (by decide), GatherDims.offCoord_eq_zero _ k 0 (by decide), Nat.zero_add, Nat.add_zero]
  rfl

/-- and on its column axis the row's index, clamped to the table's width. -/
theorem operandIdx_col (idx : IVec S16384x1x1 32) (k : S16384x1.Idx) (n : Nat) (hn : n < 1000)
    (hidx : ∀ i : S16384x1x1.Idx, (i 0).val = (k 0).val → (idx i).toInt = n) :
    (gather_S16384x1000_S16384x1x1_S16384x1_n_1_0_0_1_2_11.operandIdx k idx 1).val = n := by
  show GatherDims.start _ k idx 1 + GatherDims.batchCoord _ k 1 + GatherDims.offCoord _ k 1 = _
  rw [GatherDims.batchCoord_eq_zero _ k 1 (by decide), GatherDims.offCoord_eq_zero _ k 1 (by decide), Nat.add_zero]
  unfold GatherDims.start
  rw [dif_pos (by decide), hidx _ rfl]
  show min n 999 = n
  omega

/-- From labels below a thousand the reference's result is `gold`. -/
theorem rows_eq (x : FVec F S16384x1000 .f32) (y : IVec S16384 32) (hy : ∀ j, (y j).toNat < 1000) : rows x y = gold x y := by
  funext j
  have hw : ∀ i : S16384x1x1.Idx, ∃ j' : S16384.Idx, wrapped y i = y j' :=
    fun i => ⟨ValueIdx.ix1 (i 0), wrapped_apply y hy i _ rfl⟩
  unfold rows
  refine (shapeCast_apply (s := S16384x1) _ _ j (ValueIdx.ix2 (j 0) (0 : Fin 1)) (by
    rw [Shape.rowMajor_val_two, Shape.rowMajor_val_one]
    show (j 0).val * 1 + 0 = (j 0).val
    omega)).trans ?_
  refine (select_one _ _ _ _ (Host.reduce_andi_one _ _ _ _ _ rfl fun i => ?_)).trans ?_
  · obtain ⟨j', e⟩ := hw i
    show IntOp.andi (IntOp.cmpi .sge (wrapped y i) 0#32) (IntOp.cmpi .sle (wrapped y i) 999#32) = 1#1
    rw [e]
    exact in_range _ (hy j')
  · refine congrArg x (funext fun a => Fin.ext ?_)
    match a with
    | 0 => exact operandIdx_row _ _
    | 1 =>
      refine (operandIdx_col _ _ (y j).toNat (hy j) fun i hi => ?_).trans (Nat.mod_eq_of_lt (hy j)).symm
      rw [wrapped_apply y hy i j hi.symm]
      exact toInt_small _ (hy j)

/-- The reference's run from labels below a thousand: its result is `gold` of its arguments, which end unchanged. -/
theorem run_gold (m : (ℓ : Loc nD τ sig) → Buf (Elt F) ℓ) (ρ : Dev nD → PrngReg)
    (hy : ∀ (c : Dev nD) (j : S16384.Idx), (show BitVec 32 from m ((c.tc : Thread nD τ).loc main_arg1) j).toNat < 1000) :
    θ_run defs (onTc (τ := τ) (main (F := F))) ⟨m, fun _ => 0, ρ⟩ fun r => ∀ c : Dev nD,
      r.2.mem ((c.tc : Thread nD τ).loc main_v2) = gold (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans (rows_eq (F := F) (m ((c.tc : Thread nD τ).loc main_arg0)) (m ((c.tc : Thread nD τ).loc main_arg1)) (hy c)), (h c).2⟩)
    (Cert.ReferenceIdeal.Value.run (F := F) m ρ)

end Cert.Proof.RowPick.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_labels
public import proofs.«01_k».proof.Proof.Gen.ReferenceIdeal.Run
public import proofs.«01_k».proof.Proof.Launch
public import proofs.«01_k».proof.Proof.Value
public import Idealize.ShloMosaic.Adequacy
public import Idealize.ShloMosaic.Init
public import Idealize.ShloMosaic.Lib.Claim

@[expose] public section

noncomputable section

namespace Cert.Proof

open Idealize.ShloMosaic Idealize.SL.Sem RowPick

/-- The kernel's frame, over words: it terminates, its arguments end unchanged and every semaphore at zero. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun d j => Ref.labels_lt _ _ (hpre d) j)

/-- The same over the extended reals. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d j => Ref.labels_lt _ _ (hpre d) j)

/-- The reference's frame, from any arguments: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's frame from labels in range: the same run. -/
theorem frame_reference_labels : Cert.quiescent_ReferenceIdeal_pre_labels := fun m ρ _ => frame_reference m ρ trivial

/-- The value claim: from equal arguments, the labels in range, kernel and reference end with the same result, the
    table's element at each row's label. -/
theorem value : Cert.algebraic_KernelIdeal_ReferenceIdeal := by
  intro m g m' g' hpre hagree
  have hlab : PreOK (F := Ideal) m := fun d j => Ref.labels_lt _ _ (hpre d) j
  refine ⟨fun c => goldOf m c,
    (θ_run Cert.KernelIdeal.defs _ _).mono (fun _ h c => ⟨(h.1 c).2.2, (h.1 c).1, (h.1 c).2.1⟩) (run_main (F := Ideal) m g hlab), ?_⟩
  have hlab' : ∀ (c : Dev Cert.ReferenceIdeal.nD) (j : Cert.ReferenceIdeal.S16384.Idx), (show BitVec 32 from m' ((c.tc : Thread Cert.ReferenceIdeal.nD Cert.ReferenceIdeal.τ).loc Cert.ReferenceIdeal.main_arg1) j).toNat < 1000 := by
    intro c j
    rw [(hagree c).2]
    exact hlab c j
  refine (θ_run Cert.ReferenceIdeal.defs _ _).mono (fun _ h c => ⟨(h c).1.trans ?_, (h c).2⟩) (Ref.run_gold (F := Ideal) m' g' hlab')
  rw [(hagree c).1, (hagree c).2]

/-- Every claim of the certificate. -/
theorem claim : Cert.Claim := ⟨Cert.Kernel.Gen.facts, Cert.KernelIdeal.Gen.facts, Cert.ReferenceIdeal.Gen.facts, Cert.Pre_labels.Gen.facts,
  frame_kernel, frame_ideal, frame_reference, frame_reference_labels, trivial, value⟩

end Cert.Proof

end
